-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_tame [hPre_inputs_tame : Cert.Pre_inputs_tame.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_tame [hPre_inputs_tame : Cert.Pre_inputs_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_tame [hKernelIdeal : Cert.KernelIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_tame [hReferenceIdeal : Cert.ReferenceIdeal.Facts] [hPre_inputs_tame : Cert.Pre_inputs_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_hw" .f32 0x3BA72F05#32 ((1 / 196 : ℝ) : EReal)
  ∧ IdealRules.named_const.Statement Cert.KernelIdeal.κ "mask" .f32 0xF149F2CA#32 ⊥

def algebraic_KernelIdeal_ReferenceIdeal_pre_inputs_tame [hKernelIdeal : Cert.KernelIdeal.Facts] [hReferenceIdeal : Cert.ReferenceIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_inputs_tame : Cert.Pre_inputs_tame.Facts),
    quiescent_Kernel (hKernel := hKernel)
    ∧ quiescent_KernelIdeal (hKernelIdeal := hKernelIdeal)
    ∧ quiescent_KernelIdeal_pre_inputs_tame (hKernelIdeal := hKernelIdeal) (hPre_inputs_tame := hPre_inputs_tame)
    ∧ quiescent_ReferenceIdeal (hReferenceIdeal := hReferenceIdeal)
    ∧ quiescent_ReferenceIdeal_pre_inputs_tame (hReferenceIdeal := hReferenceIdeal) (hPre_inputs_tame := hPre_inputs_tame)
    ∧ preserves_Kernel_KernelIdeal
    ∧ algebraic_KernelIdeal_ReferenceIdeal_pre_inputs_tame (hKernelIdeal := hKernelIdeal) (hReferenceIdeal := hReferenceIdeal) (hPre_inputs_tame := hPre_inputs_tame)
-- ==== Pre_inputs_tame.lean ====
abbrev S64x384x28x28 : Shape := ⟨4, ![64, 384, 28, 28]⟩
abbrev S384x1x3x3 : Shape := ⟨4, ![384, 1, 3, 3]⟩
abbrev S384 : Shape := ⟨1, ![384]⟩
abbrev S24x384x1x1 : Shape := ⟨4, ![24, 384, 1, 1]⟩
abbrev S16x24 : Shape := ⟨2, ![16, 24]⟩
abbrev S16 : Shape := ⟨1, ![16]⟩
abbrev S_ : Shape := ⟨0, ![]⟩

class Facts : Prop where
  bcast_S_S64x384x28x28 : S_.BroadcastsInDim S64x384x28x28 (![] : Fin 0 → Fin S64x384x28x28.rank)
  reducesTo_S64x384x28x28_S_d0_1_2_3 : S64x384x28x28.ReducesTo [0, 1, 2, 3] S_
  h_S_ : 0 < S_.numel
  bcast_S_S384x1x3x3 : S_.BroadcastsInDim S384x1x3x3 (![] : Fin 0 → Fin S384x1x3x3.rank)
  reducesTo_S384x1x3x3_S_d0_1_2_3 : S384x1x3x3.ReducesTo [0, 1, 2, 3] S_
  bcast_S_S384 : S_.BroadcastsInDim S384 (![] : Fin 0 → Fin S384.rank)
  reducesTo_S384_S_d0 : S384.ReducesTo [0] S_
  bcast_S_S24x384x1x1 : S_.BroadcastsInDim S24x384x1x1 (![] : Fin 0 → Fin S24x384x1x1.rank)
  reducesTo_S24x384x1x1_S_d0_1_2_3 : S24x384x1x1.ReducesTo [0, 1, 2, 3] S_
  bcast_S_S16x24 : S_.BroadcastsInDim S16x24 (![] : Fin 0 → Fin S16x24.rank)
  reducesTo_S16x24_S_d0_1 : S16x24.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg5 : FVec F S384 .f32) (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_cst_14 : FVec F S_ .f32 := constant S_ .f32 0x3727C5AC#32
  let main_v39 : FVec F S384 .f32 := broadcastInDim S384 ![] bcast_S_S384 main_cst_14
  let main_v40 : FVec F S384 .f32 := addf main_arg5 main_v39
  let main_cst_15 : FVec F S_ .f32 := constant S_ .f32 0x00000000#32
  let main_v41 : FVec F S384 .f32 := broadcastInDim S384 ![] bcast_S_S384 main_cst_15
  let main_v42 : IVec S384 1 := cmpf .ogt main_v40 main_v41
  let main_c_16 : IVec S_ 1 := constantI S_ 1 1#1
  let main_v43 : IVec S_ 1 := (fun x v => Host.reduce IntOp.andi x v reducesTo_S384_S_d0 h_S_) main_v42 main_c_16
  let main_v44 : IVec S_ 1 := andi main_v38 main_v43
  main_v44

def fn_part1 {F : FTy → Type} [FloatOps F] (main_arg4 : FVec F S384 .f32) (main_arg5 : FVec F S384 .f32) (main_arg6 : FVec F S24x384x1x1 .f32) (main_arg7 : FVec F S16x24 .f32) (main_arg8 : FVec F S16 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S24x384x1x1 .f32 := Host.absf main_arg6
  let main_cst_8 : FVec F S_ .f32 := constant S_ .f32 0x7F800000#32
  let main_v25 : FVec F S24x384x1x1 .f32 := broadcastInDim S24x384x1x1 ![] bcast_S_S24x384x1x1 main_cst_8
  let main_v26 : IVec S24x384x1x1 1 := cmpf .olt main_v24 main_v25
  let main_c_9 : IVec S_ 1 := constantI S_ 1 1#1
  let main_v27 : IVec S_ 1 := (fun x v => Host.reduce IntOp.andi x v reducesTo_S24x384x1x1_S_d0_1_2_3 h_S_) main_v26 main_c_9
  let main_v28 : IVec S_ 1 := andi main_v23 main_v27
  let main_v29 : FVec F S16x24 .f32 := Host.absf main_arg7
  let main_cst_10 : FVec F S_ .f32 := constant S_ .f32 0x7F800000#32
  let main_v30 : FVec F S16x24 .f32 := broadcastInDim S16x24 ![] bcast_S_S16x24 main_cst_10
  let main_v31 : IVec S16x24 1 := cmpf .olt main_v29 main_v30
  let main_c_11 : IVec S_ 1 := constantI S_ 1 1#1
  let main_v32 : IVec S_ 1 := (fun x v => Host.reduce IntOp.andi x v reducesTo_S16x24_S_d0_1 h_S_) main_v31 main_c_11
  let main_v33 : IVec S_ 1 := andi main_v28 main_v32
  fn_part2 (F := F) main_arg5 main_arg8 main_v33

def fn {F : FTy → Type} [FloatOps F] (main_arg0 : FVec F S64x384x28x28 .f32) (main_arg1 : FVec F S384x1x3x3 .f32) (main_arg2 : FVec F S384 .f32) (main_arg3 : FVec F S384 .f32) (main_arg4 : FVec F S384 .f32) (main_arg5 : FVec F S384 .f32) (main_arg6 : FVec F S24x384x1x1 .f32) (main_arg7 : FVec F S16x24 .f32) (main_arg8 : FVec F S16 .f32) : IVec S_ 1 :=
  let main_v0 : FVec F S64x384x28x28 .f32 := Host.absf main_arg0
  let main_cst : FVec F S_ .f32 := constant S_ .f32 0x7F800000#32
  let main_v1 : FVec F S64x384x28x28 .f32 := broadcastInDim S64x384x28x28 ![] bcast_S_S64x384x28x28 main_cst
  let main_v2 : IVec S64x384x28x28 1 := cmpf .olt main_v0 main_v1
  let main_c : IVec S_ 1 := constantI S_ 1 1#1
  let main_v3 : IVec S_ 1 := (fun x v => Host.reduce IntOp.andi x v reducesTo_S64x384x28x28_S_d0_1_2_3 h_S_) main_v2 main_c
  let main_v4 : FVec F S384x1x3x3 .f32 := Host.absf main_arg1
  let main_cst_0 : FVec F S_ .f32 := constant S_ .f32 0x7F800000#32
  let main_v5 : FVec F S384x1x3x3 .f32 := broadcastInDim S384x1x3x3 ![] bcast_S_S384x1x3x3 main_cst_0
  let main_v6 : IVec S384x1x3x3 1 := cmpf .olt main_v4 main_v5
  let main_c_1 : IVec S_ 1 := constantI S_ 1 1#1
  let main_v7 : IVec S_ 1 := (fun x v => Host.reduce IntOp.andi x v reducesTo_S384x1x3x3_S_d0_1_2_3 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_arg5 main_arg6 main_arg7 main_arg8 main_v13 main_v16
-- ==== Kernel.lean ====
abbrev S64x384x28x28 : Shape := ⟨4, ![64, 384, 28, 28]⟩
abbrev S384x1x3x3 : Shape := ⟨4, ![384, 1, 3, 3]⟩
abbrev S384 : Shape := ⟨1, ![384]⟩
abbrev S24x384x1x1 : Shape := ⟨4, ![24, 384, 1, 1]⟩
abbrev S16x24 : Shape := ⟨2, ![16, 24]⟩
abbrev S16 : Shape := ⟨1, ![16]⟩
abbrev S64x384x784 : Shape := ⟨3, ![64, 384, 784]⟩
abbrev S384x9 : Shape := ⟨2, ![384, 9]⟩
abbrev S9x384 : Shape := ⟨2, ![9, 384]⟩
abbrev S_ : Shape := ⟨0, ![]⟩
abbrev S1x384 : Shape := ⟨2, ![1, 384]⟩
abbrev S24x384 : Shape := ⟨2, ![24, 384]⟩
abbrev S384x24 : Shape := ⟨2, ![384, 24]⟩
abbrev S384x384 : Shape := ⟨2, ![384, 384]⟩
abbrev S64x1x24 : Shape := ⟨3, ![64, 1, 24]⟩
abbrev S4x384x784 : Shape := ⟨3, ![4, 384, 784]⟩
abbrev S4x1x24 : Shape := ⟨3, ![4, 1, 24]⟩
abbrev S816x128 : Shape := ⟨2, ![816, 128]⟩
abbrev S14x16x384 : Shape := ⟨3, ![14, 16, 384]⟩
abbrev S1x384x784 : Shape := ⟨3, ![1, 384, 784]⟩
abbrev S384x784 : Shape := ⟨2, ![384, 784]⟩
abbrev S784x384 : Shape := ⟨2, ![784, 384]⟩
abbrev S16x128 : Shape := ⟨2, ![16, 128]⟩
abbrev S784x128 : Shape := ⟨2, ![784, 128]⟩
abbrev S14x128 : Shape := ⟨2, ![14, 128]⟩
abbrev S2x384 : Shape := ⟨2, ![2, 384]⟩
abbrev S1x128 : Shape := ⟨2, ![1, 128]⟩
abbrev S1x14x128 : Shape := ⟨3, ![1, 14, 128]⟩
abbrev S1x2x384 : Shape := ⟨3, ![1, 2, 384]⟩
abbrev S224x384 : Shape := ⟨2, ![224, 384]⟩
abbrev S224x24 : Shape := ⟨2, ![224, 24]⟩
abbrev S24 : Shape := ⟨1, ![24]⟩
abbrev S1x1x24 : Shape := ⟨3, ![1, 1, 24]⟩
abbrev S64x24 : Shape := ⟨2, ![64, 24]⟩
abbrev S24x16 : Shape := ⟨2, ![24, 16]⟩
abbrev S1x16 : Shape := ⟨2, ![1, 16]⟩
abbrev S64x2 : Shape := ⟨2, ![64, 2]⟩
abbrev S64x16 : Shape := ⟨2, ![64, 16]⟩
abbrev S64 : Shape := ⟨1, ![64]⟩
abbrev S64x1 : Shape := ⟨2, ![64, 1]⟩

abbrev nBuf : Space → Nat
  | .hbm => 38
  | .vmem => 19
  | .smem => 0
  | _ => 0

abbrev bufTy : (tb : Table) → Fin (tcTables nBuf tb) → BufTy
  | .hbm, ⟨0, _⟩ => ⟨S64x384x28x28, .f32⟩
  | .hbm, ⟨1, _⟩ => ⟨S384x1x3x3, .f32⟩
  | .hbm, ⟨2, _⟩ => ⟨S384, .f32⟩
  | .hbm, ⟨3, _⟩ => ⟨S384, .f32⟩
  | .hbm, ⟨4, _⟩ => ⟨S384, .f32⟩
  | .hbm, ⟨5, _⟩ => ⟨S384, .f32⟩
  | .hbm, ⟨6, _⟩ => ⟨S24x384x1x1, .f32⟩
  | .hbm, ⟨7, _⟩ => ⟨S16x24, .f32⟩
  | .hbm, ⟨8, _⟩ => ⟨S16, .f32⟩
  | .hbm, ⟨9, _⟩ => ⟨S64x384x784, .f32⟩
  | .hbm, ⟨10, _⟩ => ⟨S384x9, .f32⟩
  | .hbm, ⟨11, _⟩ => ⟨S9x384, .f32⟩
  | .hbm, ⟨12, _⟩ => ⟨S_, .f32⟩
  | .hbm, ⟨13, _⟩ => ⟨S384, .f32⟩
  | .hbm, ⟨14, _⟩ => ⟨S384, .f32⟩
  | .hbm, ⟨15, _⟩ => ⟨S384, .f32⟩
  | .hbm, ⟨16, _⟩ => ⟨S384, .f32⟩
  | .hbm, ⟨17, _⟩ => ⟨S1x384, .f32⟩
  | .hbm, ⟨18, _⟩ => ⟨S384, .f32⟩
  | .hbm, ⟨19, _⟩ => ⟨S384, .f32⟩
  | .hbm, ⟨20, _⟩ => ⟨S384, .f32⟩
  | .hbm, ⟨21, _⟩ => ⟨S1x384, .f32⟩
  | .hbm, ⟨22, _⟩ => ⟨S24x384, .f32⟩
  | .hbm, ⟨23, _⟩ => ⟨S384x24, .f32⟩
  | .hbm, ⟨24, _⟩ => ⟨S384x384, .i32⟩
  | .hbm, ⟨25, _⟩ => ⟨S384x384, .i32⟩
  | .hbm, ⟨26, _⟩ => ⟨S_, .i32⟩
  | .hbm, ⟨27, _⟩ => ⟨S384x384, .i32⟩
  | .hbm, ⟨28, _⟩ => ⟨S384x384, .i32⟩
  | .hbm, ⟨29, _⟩ => ⟨S384x384, .i1⟩
  | .hbm, ⟨30, _⟩ => ⟨S384x384, .f32⟩
  | .hbm, ⟨31, _⟩ => ⟨S64x1x24, .f32⟩
  | .hbm, ⟨32, _⟩ => ⟨S64x24, .f32⟩
  | .hbm, ⟨33, _⟩ => ⟨S24x16, .f32⟩
  | .hbm, ⟨34, _⟩ => ⟨S1x16, .f32⟩
  | .hbm, ⟨35, _⟩ => ⟨S64x2, .f32⟩
  | .hbm, ⟨36, _⟩ => ⟨S64x2, .i32⟩
  | .hbm, ⟨37, _⟩ => ⟨S64x16, .f32⟩
  | .local _ .vmem, ⟨0, _⟩ => ⟨S4x384x784, .f32⟩
  | .local _ .vmem, ⟨1, _⟩ => ⟨S4x384x784, .f32⟩
  | .local _ .vmem, ⟨2, _⟩ => ⟨S384x384, .f32⟩
  | .local _ .vmem, ⟨3, _⟩ => ⟨S9x384, .f32⟩
  | .local _ .vmem, ⟨4, _⟩ => ⟨S1x384, .f32⟩
  | .local _ .vmem, ⟨5, _⟩ => ⟨S1x384, .f32⟩
  | .local _ .vmem, ⟨6, _⟩ => ⟨S384x24, .f32⟩
  | .local _ .vmem, ⟨7, _⟩ => ⟨S4x1x24, .f32⟩
  | .local _ .vmem, ⟨8, _⟩ => ⟨S4x1x24, .f32⟩
  | .local _ .vmem, ⟨9, _⟩ => ⟨S816x128, .f32⟩
  | .local _ .vmem, ⟨10, _⟩ => ⟨S816x128, .f32⟩
  | .local _ .vmem, ⟨11, _⟩ => ⟨S816x128, .f32⟩
  | .local _ .vmem, ⟨12, _⟩ => ⟨S14x16x384, .f32⟩
  | .local _ .vmem, ⟨13, _⟩ => ⟨S64x24, .f32⟩
  | .local _ .vmem, ⟨14, _⟩ => ⟨S24x16, .f32⟩
  | .local _ .vmem, ⟨15, _⟩ => ⟨S1x16, .f32⟩
  | .local _ .vmem, ⟨16, _⟩ => ⟨S64x2, .f32⟩
  | .local _ .vmem, ⟨17, _⟩ => ⟨S64x2, .i32⟩
  | .local _ .vmem, ⟨18, _⟩ => ⟨S64x16, .f32⟩
  | _, _ => ⟨S64x384x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x384x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x1x24 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

abbrev stage1_0 : Fin 1 → Memref sig .tc .vmem S64x24 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S24x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x2 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== KernelIdeal.lean ====
variable {F : FTy → Type} [FloatOps F] [Named F]
def κ : String → Option EReal := fun
  | "inv_hw" => some ((1 / 196 : ℝ) : EReal)
  | "mask" => some ⊥
  | _ => none
-- ==== ReferenceIdeal.lean ====
abbrev S64x384x28x28 : Shape := ⟨4, ![64, 384, 28, 28]⟩
abbrev S384x1x3x3 : Shape := ⟨4, ![384, 1, 3, 3]⟩
abbrev S384 : Shape := ⟨1, ![384]⟩
abbrev S24x384x1x1 : Shape := ⟨4, ![24, 384, 1, 1]⟩
abbrev S16x24 : Shape := ⟨2, ![16, 24]⟩
abbrev S16 : Shape := ⟨1, ![16]⟩
abbrev S_ : Shape := ⟨0, ![]⟩
abbrev S64x384x30x30 : Shape := ⟨4, ![64, 384, 30, 30]⟩
abbrev S64x384x14x14 : Shape := ⟨4, ![64, 384, 14, 14]⟩
abbrev S384x1x1x1 : Shape := ⟨4, ![384, 1, 1, 1]⟩
abbrev S1x384x1x1 : Shape := ⟨4, ![1, 384, 1, 1]⟩
abbrev S24x384 : Shape := ⟨2, ![24, 384]⟩
abbrev S24x64x14x14 : Shape := ⟨4, ![24, 64, 14, 14]⟩
abbrev S64x24x14x14 : Shape := ⟨4, ![64, 24, 14, 14]⟩
abbrev S64x24 : Shape := ⟨2, ![64, 24]⟩
abbrev S24x16 : Shape := ⟨2, ![24, 16]⟩
abbrev S64x16 : Shape := ⟨2, ![64, 16]⟩
abbrev S1x16 : Shape := ⟨2, ![1, 16]⟩
abbrev S64x2 : Shape := ⟨2, ![64, 2]⟩
abbrev S64 : Shape := ⟨1, ![64]⟩
abbrev S64x1 : Shape := ⟨2, ![64, 1]⟩
abbrev S64x2x1 : Shape := ⟨3, ![64, 2, 1]⟩
abbrev S1 : Shape := ⟨1, ![1]⟩
abbrev S1x1x1 : Shape := ⟨3, ![1, 1, 1]⟩

abbrev nBuf : Space → Nat
  | .hbm => 170
  | .vmem => 0
  | .smem => 0
  | _ => 0

abbrev hbmTy0_0 (i : Nat) : BufTy := match i % 128 with
  | 0 => ⟨S64x384x28x28, .f32⟩
  | 1 => ⟨S384x1x3x3, .f32⟩
  | 2 => ⟨S384, .f32⟩
  | 3 => ⟨S384, .f32⟩
  | 4 => ⟨S384, .f32⟩
  | 5 => ⟨S384, .f32⟩
  | 6 => ⟨S24x384x1x1, .f32⟩
  | 7 => ⟨S16x24, .f32⟩
  | 8 => ⟨S16, .f32⟩
  | 9 => ⟨S_, .i32⟩
  | 10 => ⟨S_, .f32⟩
  | 11 => ⟨S64x384x30x30, .f32⟩
  | 12 => ⟨S_, .f32⟩
  | 13 => ⟨S64x384x14x14, .f32⟩
  | 14 => ⟨S64x384x14x14, .f32⟩
  | 15 => ⟨S384x1x1x1, .f32⟩
  | 16 => ⟨S384, .f32⟩
  | 17 => ⟨S1x384x1x1, .f32⟩
  | 18 => ⟨S64x384x14x14, .f32⟩
  | 19 => ⟨S64x384x14x14, .f32⟩
  | 20 => ⟨S64x384x14x14, .f32⟩
  | 21 => ⟨S64x384x14x14, .f32⟩
  | 22 => ⟨S384x1x1x1, .f32⟩
  | 23 => ⟨S384, .f32⟩
  | 24 => ⟨S1x384x1x1, .f32⟩
  | 25 => ⟨S64x384x14x14, .f32⟩
  | 26 => ⟨S64x384x14x14, .f32⟩
  | 27 => ⟨S64x384x14x14, .f32⟩
  | 28 => ⟨S64x384x14x14, .f32⟩
  | 29 => ⟨S384x1x1x1, .f32⟩
  | 30 => ⟨S384, .f32⟩
  | 31 => ⟨S1x384x1x1, .f32⟩
  | 32 => ⟨S64x384x14x14, .f32⟩
  | 33 => ⟨S64x384x14x14, .f32⟩
  | 34 => ⟨S64x384x14x14, .f32⟩
  | 35 => ⟨S64x384x14x14, .f32⟩
  | 36 => ⟨S384x1x1x1, .f32⟩
  | 37 => ⟨S384, .f32⟩
  | 38 => ⟨S1x384x1x1, .f32⟩
  | 39 => ⟨S64x384x14x14, .f32⟩
  | 40 => ⟨S64x384x14x14, .f32⟩
  | 41 => ⟨S64x384x14x14, .f32⟩
  | 42 => ⟨S64x384x14x14, .f32⟩
  | 43 => ⟨S384x1x1x1, .f32⟩
  | 44 => ⟨S384, .f32⟩
  | 45 => ⟨S1x384x1x1, .f32⟩
  | 46 => ⟨S64x384x14x14, .f32⟩
  | 47 => ⟨S64x384x14x14, .f32⟩
  | 48 => ⟨S64x384x14x14, .f32⟩
  | 49 => ⟨S64x384x14x14, .f32⟩
  | 50 => ⟨S384x1x1x1, .f32⟩
  | 51 => ⟨S384, .f32⟩
  | 52 => ⟨S1x384x1x1, .f32⟩
  | 53 => ⟨S64x384x14x14, .f32⟩
  | 54 => ⟨S64x384x14x14, .f32⟩
  | 55 => ⟨S64x384x14x14, .f32⟩
  | 56 => ⟨S64x384x14x14, .f32⟩
  | 57 => ⟨S384x1x1x1, .f32⟩
  | 58 => ⟨S384, .f32⟩
  | 59 => ⟨S1x384x1x1, .f32⟩
  | 60 => ⟨S64x384x14x14, .f32⟩
  | 61 => ⟨S64x384x14x14, .f32⟩
  | 62 => ⟨S64x384x14x14, .f32⟩
  | 63 => ⟨S64x384x14x14, .f32⟩
  | 64 => ⟨S384x1x1x1, .f32⟩
  | 65 => ⟨S384, .f32⟩
  | 66 => ⟨S1x384x1x1, .f32⟩
  | 67 => ⟨S64x384x14x14, .f32⟩
  | 68 => ⟨S64x384x14x14, .f32⟩
  | 69 => ⟨S64x384x14x14, .f32⟩
  | 70 => ⟨S64x384x14x14, .f32⟩
  | 71 => ⟨S384x1x1x1, .f32⟩
  | 72 => ⟨S384, .f32⟩
  | 73 => ⟨S1x384x1x1, .f32⟩
  | 74 => ⟨S64x384x14x14, .f32⟩
  | 75 => ⟨S64x384x14x14, .f32⟩
  | 76 => ⟨S64x384x14x14, .f32⟩
  | 77 => ⟨S1x384x1x1, .f32⟩
  | 78 => ⟨S64x384x14x14, .f32⟩
  | 79 => ⟨S64x384x14x14, .f32⟩
  | 80 => ⟨S1x384x1x1, .f32⟩
  | 81 => ⟨S_, .f32⟩
  | 82 => ⟨S1x384x1x1, .f32⟩
  | 83 => ⟨S1x384x1x1, .f32⟩
  | 84 => ⟨S1x384x1x1, .f32⟩
  | 85 => ⟨S64x384x14x14, .f32⟩
  | 86 => ⟨S64x384x14x14, .f32⟩
  | 87 => ⟨S1x384x1x1, .f32⟩
  | 88 => ⟨S64x384x14x14, .f32⟩
  | 89 => ⟨S64x384x14x14, .f32⟩
  | 90 => ⟨S1x384x1x1, .f32⟩
  | 91 => ⟨S64x384x14x14, .f32⟩
  | 92 => ⟨S64x384x14x14, .f32⟩
  | 93 => ⟨S64x384x14x14, .f32⟩
  | 94 => ⟨S64x384x14x14, .f32⟩
  | 95 => ⟨S_, .f32⟩
  | 96 => ⟨S64x384x14x14, .f32⟩
  | 97 => ⟨S64x384x14x14, .f32⟩
  | 98 => ⟨S_, .f32⟩
  | 99 => ⟨S64x384x14x14, .f32⟩
  | 100 => ⟨S64x384x14x14, .f32⟩
  | 101 => ⟨S64x384x14x14, .f32⟩
  | 102 => ⟨S24x384, .f32⟩
  | 103 => ⟨S24x64x14x14, .f32⟩
  | 104 => ⟨S64x24x14x14, .f32⟩
  | 105 => ⟨S64x24x14x14, .f32⟩
  | 106 => ⟨S64x24x14x14, .f32⟩
  | 107 => ⟨S_, .f32⟩
  | 108 => ⟨S64x24x14x14, .f32⟩
  | 109 => ⟨S64x24x14x14, .f32⟩
  | 110 => ⟨S_, .f32⟩
  | 111 => ⟨S64x24x14x14, .f32⟩
  | 112 => ⟨S64x24x14x14, .f32⟩
  | 113 => ⟨S64x24x14x14, .f32⟩
  | 114 => ⟨S_, .f32⟩
  | 115 => ⟨S64x24, .f32⟩
  | 116 => ⟨S_, .f32⟩
  | 117 => ⟨S64x24, .f32⟩
  | 118 => ⟨S64x24, .f32⟩
  | 119 => ⟨S24x16, .f32⟩
  | 120 => ⟨S64x16, .f32⟩
  | 121 => ⟨S1x16, .f32⟩
  | 122 => ⟨S64x16, .f32⟩
  | 123 => ⟨S64x16, .f32⟩
  | 124 => ⟨S64x2, .f32⟩
  | 125 => ⟨S64x2, .i32⟩
  | 126 => ⟨S_, .f32⟩
  | 127 => ⟨S64, .f32⟩
  | _ => ⟨S64x384x28x28, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x16, .f32⟩
  | 5 => ⟨S64x16, .f32⟩
  | 6 => ⟨S64x16, .f32⟩
  | 7 => ⟨S_, .f32⟩
  | 8 => ⟨S64, .f32⟩
  | 9 => ⟨S64x1, .f32⟩
  | 10 => ⟨S64x16, .f32⟩
  | 11 => ⟨S64x16, .f32⟩
  | 12 => ⟨S_, .i32⟩
  | 13 => ⟨S64x2, .i32⟩
  | 14 => ⟨S64x2, .i1⟩
  | 15 => ⟨S_, .i32⟩
  | 16 => ⟨S64x2, .i32⟩
  | 17 => ⟨S64x2, .i32⟩
  | 18 => ⟨S64x2, .i32⟩
  | 19 => ⟨S64x2x1, .i32⟩
  | 20 => ⟨S1, .i32⟩
  | 21 => ⟨S_, .i32⟩
  | 22 => ⟨S64x2x1, .i32⟩
  | 23 => ⟨S64x2x1, .i1⟩
  | 24 => ⟨S1x1x1, .i32⟩
  | 25 => ⟨S64x2x1, .i32⟩
  | 26 => ⟨S64x2x1, .i1⟩
  | 27 => ⟨S64x2x1, .i1⟩
  | 28 => ⟨S_, .i1⟩
  | 29 => ⟨S64x2, .i1⟩
  | 30 => ⟨S64x2, .f32⟩
  | 31 => ⟨S_, .f32⟩
  | 32 => ⟨S64x2, .f32⟩
  | 33 => ⟨S64x2, .f32⟩
  | 34 => ⟨S_, .f32⟩
  | 35 => ⟨S64, .f32⟩
  | 36 => ⟨S64x1, .f32⟩
  | 37 => ⟨S_, .f32⟩
  | 38 => ⟨S64x1, .f32⟩
  | 39 => ⟨S64x1, .f32⟩
  | 40 => ⟨S64x2, .f32⟩
  | 41 => ⟨S64x2, .f32⟩
  | _ => ⟨S64x384x28x28, .f32⟩

abbrev hbmTy (i : Nat) : BufTy := match i / 128 with
  | 0 => hbmTy0_0 i
  | 1 => hbmTy0_1 i
  | _ => ⟨S64x384x28x28, .f32⟩

abbrev bufTy : (tb : Table) → Fin (tcTables nBuf tb) → BufTy
  | .hbm, ⟨i, _⟩ => hbmTy i
  | _, _ => ⟨S64x384x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_0 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_1 : Ref sig .tc := ⟨.hbm, 95, rfl⟩
abbrev main_v82 : Ref sig .tc := ⟨.hbm, 96, rfl⟩
abbrev main_v83 : Ref sig .tc := ⟨.hbm, 97, rfl⟩
abbrev main_cst_2 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_3 : Ref sig .tc := ⟨.hbm, 107, rfl⟩
abbrev main_v92 : Ref sig .tc := ⟨.hbm, 108, rfl⟩
abbrev main_v93 : Ref sig .tc := ⟨.hbm, 109, rfl⟩
abbrev main_cst_4 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_5 : Ref sig .tc := ⟨.hbm, 114, rfl⟩
abbrev main_v97 : Ref sig .tc := ⟨.hbm, 115, rfl⟩
abbrev main_cst_6 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_values : Ref sig .tc := ⟨.hbm, 124, rfl⟩
abbrev main_indices : Ref sig .tc := ⟨.hbm, 125, rfl⟩
abbrev main_cst_7 : Ref sig .tc := ⟨.hbm, 126, rfl⟩
abbrev main_v105 : Ref sig .tc := ⟨.hbm, 127, rfl⟩
abbrev main_cst_8 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_9 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_call1_c : Ref sig .tc := ⟨.hbm, 140, rfl⟩
abbrev main_call1_v0 : Ref sig .tc := ⟨.hbm, 141, rfl⟩
abbrev main_call1_v1 : Ref sig .tc := ⟨.hbm, 142, rfl⟩
abbrev main_call1_c_0 : Ref sig .tc := ⟨.hbm, 143, rfl⟩
abbrev main_call1_v2 : Ref sig .tc := ⟨.hbm, 144, rfl⟩
abbrev main_call1_v3 : Ref sig .tc := ⟨.hbm, 145, rfl⟩
abbrev main_call1_v4 : Ref sig .tc := ⟨.hbm, 146, rfl⟩
abbrev main_call1_v5 : Ref sig .tc := ⟨.hbm, 147, rfl⟩
abbrev main_call1_c_1 : Ref sig .tc := ⟨.hbm, 148, rfl⟩
abbrev main_call1_c_2 : Ref sig .tc := ⟨.hbm, 149, rfl⟩
abbrev main_call1_v6 : Ref sig .tc := ⟨.hbm, 150, rfl⟩
abbrev main_call1_v7 : Ref sig .tc := ⟨.hbm, 151, rfl⟩
abbrev main_call1_v8 : Ref sig .tc := ⟨.hbm, 152, rfl⟩
abbrev main_call1_v9 : Ref sig .tc := ⟨.hbm, 153, rfl⟩
abbrev main_call1_v10 : Ref sig .tc := ⟨.hbm, 154, rfl⟩
abbrev main_call1_v11 : Ref sig .tc := ⟨.hbm, 155, rfl⟩
abbrev main_call1_c_3 : Ref sig .tc := ⟨.hbm, 156, rfl⟩
abbrev main_call1_v12 : Ref sig .tc := ⟨.hbm, 157, rfl⟩
abbrev main_call1_v13 : Ref sig .tc := ⟨.hbm, 158, rfl⟩
abbrev main_call1_cst : Ref sig .tc := ⟨.hbm, 159, rfl⟩
abbrev main_call1_v14 : Ref sig .tc := ⟨.hbm, 160, rfl⟩
abbrev main_v116 : Ref sig .tc := ⟨.hbm, 161, rfl⟩
abbrev main_cst_10 : Ref sig .tc := ⟨.hbm, 162, rfl⟩
abbrev main_v117 : Ref sig .tc := ⟨.hbm, 163, rfl⟩
abbrev main_v118 : Ref sig .tc := ⟨.hbm, 164, rfl⟩
abbrev main_cst_11 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩

abbrev nD : Nat := 1
abbrev τ : Topo := Topo.v7x

variable {F : FTy → Type} [FloatOps F]
-- ==== Proof.Math.Conv.lean ====
/- The nine taps of a 3×3 convolution, summed row by row as the mathematics is written, or column by column with the first column
   masked as the kernel has it. -/
module

public import Mathlib.Data.EReal.Operations

@[expose] public section

noncomputable section

namespace Cert.Math

/-- Nine products, row by row. -/
def rows (P W : Nat → Nat → EReal) : EReal :=
  0 + P 0 0 * W 0 0 + P 0 1 * W 0 1 + P 0 2 * W 0 2 + P 1 0 * W 1 0 + P 1 1 * W 1 1 + P 1 2 * W 1 2
    + P 2 0 * W 2 0 + P 2 1 * W 2 1 + P 2 2 * W 2 2

/-- Three products of one column. -/
def col (T W : Nat → Nat → EReal) (d : Nat) : EReal := T 0 d * W 0 d + T 1 d * W 1 d + T 2 d * W 2 d

/-- The lower two. -/
def low (T W : Nat → Nat → EReal) (d : Nat) : EReal := T 1 d * W 1 d + T 2 d * W 2 d

theorem low_eq (P T W : Nat → Nat → EReal) (d : Nat) (h0 : P 0 d = 0) (h1 : T 1 d = P 1 d) (h2 : T 2 d = P 2 d) :
    low T W d = col P W d := by
  unfold low col
  rw [h0, h1, h2, zero_mul, zero_add]

theorem col_eq (P T W : Nat → Nat → EReal) (d : Nat) (h0 : T 0 d = P 0 d) (h1 : T 1 d = P 1 d) (h2 : T 2 d = P 2 d) :
    col T W d = col P W d := by
  unfold col
  rw [h0, h1, h2]

theorem col_zero (P W : Nat → Nat → EReal) (d : Nat) (h : ∀ e, P e d = 0) : col P W d = 0 := by
  unfold col
  rw [h, h, h, zero_mul, zero_mul, zero_mul, zero_add, zero_add]

theorem rows_eq (P W : Nat → Nat → EReal) : col P W 0 + col P W 1 + col P W 2 = rows P W := by
  unfold rows col
  abel

end Cert.Math
-- ==== Proof.Math.Model.lean ====
/- The router written over the extended reals: the padded picture, the taps, and the pooled channel products with the
   batch normalisation folded into a scale and a shift. -/
module

public import proofs.«01_k».proof.Proof.Math.Conv
public import Idealize.ShloMosaic.PureOps.Ideal.Laws
public import Idealize.ShloMosaic.Lib.ValueIdx

@[expose] public section

noncomputable section

namespace Cert.Math

open Idealize.ShloMosaic Idealize.ShloMosaic.ValueIdx

/-- The arguments: pictures, depthwise taps, scale, offset, mean, variance, channel mix, last layer and its offset. -/
structure Args where
  x : (⟨4, ![64, 384, 28, 28]⟩ : Shape).Idx → EReal
  w : (⟨4, ![384, 1, 3, 3]⟩ : Shape).Idx → EReal
  γ : (⟨1, ![384]⟩ : Shape).Idx → EReal
  β : (⟨1, ![384]⟩ : Shape).Idx → EReal
  μ : (⟨1, ![384]⟩ : Shape).Idx → EReal
  v : (⟨1, ![384]⟩ : Shape).Idx → EReal
  pw : (⟨4, ![24, 384, 1, 1]⟩ : Shape).Idx → EReal
  fw : (⟨2, ![16, 24]⟩ : Shape).Idx → EReal
  fb : (⟨1, ![16]⟩ : Shape).Idx → EReal

/-- The small number added to a variance. -/
def eps : EReal := Ideal.ofBits .f32 0x3727C5AC#32

/-- A picture with a border of zeros, one wide. -/
def image (A : Args) (n : Fin 64) (c : Fin 384) (r q : Nat) : EReal :=
  if h : (1 ≤ r ∧ r ≤ 28) ∧ (1 ≤ q ∧ q ≤ 28) then
    A.x (ix4 (n0 := 64) (n1 := 384) (n2 := 28) (n3 := 28) n c ⟨r - 1, by omega⟩ ⟨q - 1, by omega⟩) else 0

/-- A channel's taps. -/
def kernel (A : Args) (c : Fin 384) (e d : Nat) : EReal :=
  if h : e < 3 ∧ d < 3 then A.w (ix4 (n0 := 384) (n1 := 1) (n2 := 3) (n3 := 3) c 0 ⟨e, h.1⟩ ⟨d, h.2⟩) else 0

/-- The convolution at stride two. -/
def conv (A : Args) (n : Fin 64) (c : Fin 384) (i a : Nat) : EReal :=
  rows (fun e d => image A n c (2 * i + e) (2 * a + d)) (kernel A c)

/-- The reciprocal root of a shifted variance. -/
def root (A : Args) (c : Fin 384) : EReal := Ideal.rsqrt (A.v (ix1 c) + eps)

/-- A gated value. -/
def gate (v : EReal) : EReal := v * Ideal.logistic v

/-- The normalisation folded into a scale and a shift. -/
def folded (A : Args) (n : Fin 64) (c : Fin 384) (i a : Nat) : EReal :=
  conv A n c i a * (A.γ (ix1 c) * root A c) + (A.β (ix1 c) - A.μ (ix1 c) * A.γ (ix1 c) * root A c)

/-- The channel product of gated values at a place. -/
def mix (A : Args) (n : Fin 64) (r : Fin 24) (i a : Nat) : EReal :=
  ∑ c : Fin 384, gate (folded A n c i a) * A.pw (ix4 (n0 := 24) (n1 := 384) (n2 := 1) (n3 := 1) r c 0 0)

/-- The mean over the picture of the gated channel products. -/
def pooled (A : Args) (n : Fin 64) (r : Fin 24) : EReal :=
  (∑ i : Fin 14, ∑ a : Fin 14, gate (mix A n r i.val a.val)) * ((1 / 196 : ℝ) : EReal)

/-- The last layer. -/
def logit (A : Args) (n : Fin 64) (k : Fin 16) : EReal :=
  (∑ r : Fin 24, pooled A n r * A.fw (ix2 (n0 := 16) (n1 := 24) k r)) + A.fb (ix1 k)

end Cert.Math
-- ==== Proof.Math.Norm.lean ====
/- At real arguments the normalisation as it is written is the normalisation folded into a scale and a shift; and every
   value up to the last layer is a real. -/
module

public import proofs.«01_k».proof.Proof.Math.Model
public import Mathlib.Tactic.FieldSimp
public import Mathlib.Tactic.Ring

@[expose] public section

noncomputable section

namespace Cert.Math

open Idealize.ShloMosaic Idealize.ShloMosaic.ValueIdx

/-- An extended real that is a real. -/
def Real (e : EReal) : Prop := ∃ r : ℝ, e = r

theorem Real.zero : Real 0 := ⟨0, rfl⟩
theorem Real.coe (r : ℝ) : Real r := ⟨r, rfl⟩
theorem Real.add {a b : EReal} (ha : Real a) (hb : Real b) : Real (a + b) := by
  obtain ⟨x, rfl⟩ := ha; obtain ⟨y, rfl⟩ := hb
  exact ⟨x + y, (EReal.coe_add x y).symm⟩
theorem Real.sub {a b : EReal} (ha : Real a) (hb : Real b) : Real (a - b) := by
  obtain ⟨x, rfl⟩ := ha; obtain ⟨y, rfl⟩ := hb
  exact ⟨x - y, (EReal.coe_sub x y).symm⟩
theorem Real.mul {a b : EReal} (ha : Real a) (hb : Real b) : Real (a * b) := by
  obtain ⟨x, rfl⟩ := ha; obtain ⟨y, rfl⟩ := hb
  exact ⟨x * y, (EReal.coe_mul x y).symm⟩
theorem Real.sum {n : Nat} {f : Fin n → EReal} (h : ∀ k, Real (f k)) : Real (∑ k, f k) :=
  Finset.sum_induction f Real (fun _ _ => Real.add) Real.zero fun k _ => h k
theorem Real.gate {v : EReal} (h : Real v) : Real (gate v) := by
  obtain ⟨x, rfl⟩ := h
  unfold Math.gate
  rw [Ideal.logistic_coe]
  exact (Real.coe _).mul (Real.coe _)

/-- Every argument but the variances a real, every variance plus the normalisation's constant above zero. -/
structure Tame (A : Args) : Prop where
  x : ∀ i, Real (A.x i)
  w : ∀ i, Real (A.w i)
  γ : ∀ i, Real (A.γ i)
  β : ∀ i, Real (A.β i)
  μ : ∀ i, Real (A.μ i)
  pw : ∀ i, Real (A.pw i)
  fw : ∀ i, Real (A.fw i)
  fb : ∀ i, Real (A.fb i)
  pos : ∀ i, 0 < A.v i + eps

theorem rows_real {P W : Nat → Nat → EReal} (hP : ∀ e d, Real (P e d)) (hW : ∀ e d, Real (W e d)) : Real (rows P W) := by
  unfold rows
  have h := fun e d => (hP e d).mul (hW e d)
  exact ((((((((Real.zero.add (h 0 0)).add (h 0 1)).add (h 0 2)).add (h 1 0)).add (h 1 1)).add (h 1 2)).add (h 2 0)).add (h 2 1)).add (h 2 2)

variable {A : Args}

theorem image_real (hA : Tame A) (n : Fin 64) (c : Fin 384) (r q : Nat) : Real (image A n c r q) := by
  unfold image
  split
  · exact hA.x _
  · exact Real.zero

theorem kernel_real (hA : Tame A) (c : Fin 384) (e d : Nat) : Real (kernel A c e d) := by
  unfold kernel
  split
  · exact hA.w _
  · exact Real.zero

theorem conv_real (hA : Tame A) (n : Fin 64) (c : Fin 384) (i a : Nat) : Real (conv A n c i a) :=
  rows_real (fun _ _ => image_real hA n c _ _) (kernel_real hA c)

/-- The root of the variance and its reciprocal: at an infinite variance, dividing is multiplying by zero. -/
theorem root_real (hA : Tame A) (c : Fin 384) :
    ∃ s : ℝ, root A c = (s : EReal) ∧ ∀ e : EReal, Ideal.div e (Ideal.sqrt (A.v (ix1 c) + eps)) = e * s := by
  have hpos := hA.pos (ix1 c)
  unfold root
  generalize A.v (ix1 c) + eps = u at hpos ⊢
  induction u using EReal.rec with
  | bot => exact absurd hpos (by simp)
  | top =>
    refine ⟨0, rfl, fun e => ?_⟩
    rw [Ideal.sqrt_top]
    simp [Ideal.div]
  | coe t =>
    have ht : 0 < t := EReal.coe_pos.mp hpos
    refine ⟨(√t)⁻¹, ?_, fun e => ?_⟩
    · rw [Ideal.rsqrt_coe, if_neg (by linarith), if_neg ht.ne']
    · rw [Ideal.sqrt_coe, if_neg (by linarith), Ideal.div_coe (Real.sqrt_pos.mpr ht).ne', one_div]

/-- The normalisation as it is written. -/
def normed (A : Args) (n : Fin 64) (c : Fin 384) (i a : Nat) : EReal :=
  Ideal.div (conv A n c i a - A.μ (ix1 c)) (Ideal.sqrt (A.v (ix1 c) + eps)) * A.γ (ix1 c) + A.β (ix1 c)

theorem normed_eq (hA : Tame A) (n : Fin 64) (c : Fin 384) (i a : Nat) : normed A n c i a = folded A n c i a := by
  unfold normed folded
  obtain ⟨s, h1, h2⟩ := root_real hA c
  obtain ⟨k, hk⟩ := conv_real hA n c i a
  obtain ⟨μ, hμ⟩ := hA.μ (ix1 c)
  obtain ⟨γ, hγ⟩ := hA.γ (ix1 c)
  obtain ⟨β, hβ⟩ := hA.β (ix1 c)
  rw [h1, h2, hk, hμ, hγ, hβ]
  norm_cast
  ring

theorem folded_real (hA : Tame A) (n : Fin 64) (c : Fin 384) (i a : Nat) : Real (folded A n c i a) := by
  obtain ⟨s, h1, -⟩ := root_real hA c
  have hr : Real (root A c) := ⟨_, h1⟩
  exact ((conv_real hA n c i a).mul ((hA.γ _).mul hr)).add ((hA.β _).sub (((hA.μ _).mul (hA.γ _)).mul hr))

theorem mix_real (hA : Tame A) (n : Fin 64) (r : Fin 24) (i a : Nat) : Real (mix A n r i a) :=
  Real.sum fun c => (folded_real hA n c i a).gate.mul (hA.pw _)

theorem pooled_real (hA : Tame A) (n : Fin 64) (r : Fin 24) : Real (pooled A n r) :=
  (Real.sum fun i => Real.sum fun a => (mix_real hA n r i.val a.val).gate).mul (Real.coe _)

/-- Every logit is a real. -/
theorem logit_real (hA : Tame A) (n : Fin 64) (k : Fin 16) : Real (logit A n k) :=
  (Real.sum fun r => (pooled_real hA n r).mul (hA.fw _)).add (hA.fb _)

end Cert.Math
-- ==== Proof.Final.Tame.lean ====
/- The precondition read back: every argument but the variances a real, every variance plus the normalisation's constant above zero. -/
module

public import proofs.«01_k».proof.Defs
public import proofs.«01_k».proof.Proof.Math.Norm
public import Idealize.ShloMosaic.Lib.ReduceAll
public import Idealize.ShloMosaic.PureOps.Ideal.Laws

@[expose] public section

noncomputable section

namespace Cert.Pre_inputs_tame.Gen

open Cert.Pre_inputs_tame Idealize.ShloMosaic Cert.Math

theorem bcast_S_S64x384x28x28 : S_.BroadcastsInDim S64x384x28x28 (![] : Fin 0 → Fin S64x384x28x28.rank) := by decide
theorem reducesTo_S64x384x28x28_S_d0_1_2_3 : S64x384x28x28.ReducesTo [0, 1, 2, 3] S_ := by decide
theorem h_S_ : 0 < S_.numel := by decide
theorem bcast_S_S384x1x3x3 : S_.BroadcastsInDim S384x1x3x3 (![] : Fin 0 → Fin S384x1x3x3.rank) := by decide
theorem reducesTo_S384x1x3x3_S_d0_1_2_3 : S384x1x3x3.ReducesTo [0, 1, 2, 3] S_ := by decide
theorem bcast_S_S384 : S_.BroadcastsInDim S384 (![] : Fin 0 → Fin S384.rank) := by decide
theorem reducesTo_S384_S_d0 : S384.ReducesTo [0] S_ := by decide
theorem bcast_S_S24x384x1x1 : S_.BroadcastsInDim S24x384x1x1 (![] : Fin 0 → Fin S24x384x1x1.rank) := by decide
theorem reducesTo_S24x384x1x1_S_d0_1_2_3 : S24x384x1x1.ReducesTo [0, 1, 2, 3] S_ := by decide
theorem bcast_S_S16x24 : S_.BroadcastsInDim S16x24 (![] : Fin 0 → Fin S16x24.rank) := by decide
theorem reducesTo_S16x24_S_d0_1 : S16x24.ReducesTo [0, 1] S_ := by decide
theorem bcast_S_S16 : S_.BroadcastsInDim S16 (![] : Fin 0 → Fin S16.rank) := by decide
theorem reducesTo_S16_S_d0 : S16.ReducesTo [0] S_ := by decide

/-- The predicate's side conditions, proved. -/
instance facts : Cert.Pre_inputs_tame.Facts where
  bcast_S_S64x384x28x28 := bcast_S_S64x384x28x28
  reducesTo_S64x384x28x28_S_d0_1_2_3 := reducesTo_S64x384x28x28_S_d0_1_2_3
  h_S_ := h_S_
  bcast_S_S384x1x3x3 := bcast_S_S384x1x3x3
  reducesTo_S384x1x3x3_S_d0_1_2_3 := reducesTo_S384x1x3x3_S_d0_1_2_3
  bcast_S_S384 := bcast_S_S384
  reducesTo_S384_S_d0 := reducesTo_S384_S_d0
  bcast_S_S24x384x1x1 := bcast_S_S24x384x1x1
  reducesTo_S24x384x1x1_S_d0_1_2_3 := reducesTo_S24x384x1x1_S_d0_1_2_3
  bcast_S_S16x24 := bcast_S_S16x24
  reducesTo_S16x24_S_d0_1 := reducesTo_S16x24_S_d0_1
  bcast_S_S16 := bcast_S_S16
  reducesTo_S16_S_d0 := reducesTo_S16_S_d0

instance : Subsingleton S_.Idx := ⟨fun a b => funext fun i => i.elim0⟩

theorem real_of_abs {e : EReal} (h : BitVec.ofBool (decide (max e (-e) < Ideal.ofBits .f32 0x7F800000#32)) = 1#1) : Math.Real e := by
  have htop : Ideal.ofBits .f32 0x7F800000#32 = (⊤ : EReal) := by simp [Ideal.ofBits, Ideal.ieee]
  rw [htop] at h
  have h2 : max e (-e) < ⊤ := by
    by_contra hc
    rw [decide_eq_false hc] at h
    exact absurd h (by decide)
  induction e using EReal.rec with
  | bot => simp at h2
  | top => simp at h2
  | coe r => exact ⟨r, rfl⟩

theorem pos_of_gt {e : EReal} (h : BitVec.ofBool (decide (Ideal.ofBits .f32 0x00000000#32 < e)) = 1#1) : 0 < e := by
  rw [Ideal.ofBits_zero_f32] at h
  by_contra hc
  rw [decide_eq_false hc] at h
  exact absurd h (by decide)

/-- An array whose test "every absolute value is below infinity" came out one is an array of reals. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : Math.Real (x i) :=
  real_of_abs (Host.reduce_andi_all _ _ hr hu j h i)

theorem all_pos {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .ogt x (broadcastInDim s ![] hb (constant S_ .f32 0x00000000#32))) (constantI S_ 1 1#1) hr hu j = 1#1)
    (i : s.Idx) : 0 < (x i : EReal) :=
  pos_of_gt (Host.reduce_andi_all _ _ hr hu j h i)

/-- The precondition at a set of arguments makes them tame. -/
theorem tame (A : Args) (h : fn (F := Ideal) A.x A.w A.γ A.β A.μ A.v A.pw A.fw A.fb = fun _ => 1#1) : Tame A := by
  have h0 := congrFun h (Shape.Idx.first h_S_)
  unfold fn fn_part1 fn_part2 at h0
  obtain ⟨h1, hpos⟩ := IntOp.andi_eq_one.1 h0
  obtain ⟨h2, hfb⟩ := IntOp.andi_eq_one.1 h1
  obtain ⟨h3, hfw⟩ := IntOp.andi_eq_one.1 h2
  obtain ⟨h4, hpw⟩ := IntOp.andi_eq_one.1 h3
  obtain ⟨h6, hμ⟩ := IntOp.andi_eq_one.1 h4
  obtain ⟨h7, hβ⟩ := IntOp.andi_eq_one.1 h6
  obtain ⟨h8, hγ⟩ := IntOp.andi_eq_one.1 h7
  obtain ⟨hx, hw⟩ := IntOp.andi_eq_one.1 h8
  exact ⟨all_real _ _ _ _ _ hx, all_real _ _ _ _ _ hw, all_real _ _ _ _ _ hγ, all_real _ _ _ _ _ hβ, all_real _ _ _ _ _ hμ,
    all_real _ _ _ _ _ hpw, all_real _ _ _ _ _ hfw, all_real _ _ _ _ _ hfb, all_pos _ _ _ _ _ hpos⟩

end Cert.Pre_inputs_tame.Gen
-- ==== Proof.Arrays.Host.lean ====
/- What the host stretches leave in the arrays the regions read. -/
module

public import proofs.«01_k».proof.Proof.Gen.KernelIdeal.Frame
public import Idealize.ShloMosaic.Lib.StableHlo.RunRead

@[expose] public section

noncomputable section

namespace Cert.KernelIdeal.Arrays

open Cert.KernelIdeal Cert.KernelIdeal.Gen
open Idealize.ShloMosaic Idealize.ShloMosaic.TcCoe Idealize.SL.Sem

variable {F : FTy → Type} [FloatOps F] [Named F]

variable (V : Valuation τ sig (Elt F))

theorem host_v0 : StableHlo.after hostOps0 V (Proc.devRef .tc main_v0) = shapeCast S64x384x784 (V (Proc.devRef .tc main_arg0)) shapeCasts_S64x384x28x28_S64x384x784 := by
  after_reads_simp
  rfl

theorem host_v2 : StableHlo.after hostOps0 V (Proc.devRef .tc main_v2)
    = transpose S9x384 [1, 0] (shapeCast S384x9 (V (Proc.devRef .tc main_arg1)) shapeCasts_S384x1x3x3_S384x9) transposes_S384x9_S9x384_1_0 := by
  after_reads_simp
  rfl

/-- The reciprocal root of the shifted variance. -/
def root (x : Vec F S384 .f32) : Vec F S384 .f32 :=
  Host.rsqrt (addf x (broadcastInDim S384 ![] bcast_S_S384 (constant (F := F) S_ .f32 0x3727C5AC#32)))

theorem host_v7 : StableHlo.after hostOps0 V (Proc.devRef .tc main_v7)
    = broadcastInDim S1x384 ![1] bcast_S384_S1x384_1 (mulf (F := F) (V (Proc.devRef .tc main_arg2)) (root (F := F) (V (Proc.devRef .tc main_arg5)))) := by
  after_reads_simp
  rfl

theorem host_v11 : StableHlo.after hostOps0 V (Proc.devRef .tc main_v11)
    = broadcastInDim S1x384 ![1] bcast_S384_S1x384_1 (subf (F := F) (V (Proc.devRef .tc main_arg3))
      (mulf (mulf (F := F) (V (Proc.devRef .tc main_arg4)) (V (Proc.devRef .tc main_arg2))) (root (F := F) (V (Proc.devRef .tc main_arg5))))) := by
  after_reads_simp
  rfl

theorem host_v13 : StableHlo.after hostOps0 V (Proc.devRef .tc main_v13)
    = transpose S384x24 [1, 0] (shapeCast S24x384 (V (Proc.devRef .tc main_arg6)) shapeCasts_S24x384x1x1_S24x384) transposes_S24x384_S384x24_1_0 := by
  after_reads_simp
  rfl

theorem host_v21 : StableHlo.after hostOps1 V (Proc.devRef .tc main_v21) = shapeCast S64x24 (V (Proc.devRef .tc main_v20)) shapeCasts_S64x1x24_S64x24 := by
  after_reads_simp
  rfl

theorem host_v22 : StableHlo.after hostOps1 V (Proc.devRef .tc main_v22) = transpose S24x16 [1, 0] (V (Proc.devRef .tc main_arg7)) transposes_S16x24_S24x16_1_0 := by
  after_reads_simp

theorem host_v23 : StableHlo.after hostOps1 V (Proc.devRef .tc main_v23) = broadcastInDim S1x16 ![1] bcast_S16_S1x16_1 (V (Proc.devRef .tc main_arg8)) := by
  after_reads_simp

end Cert.KernelIdeal.Arrays
-- ==== Proof.Arrays.Blocks.lean ====
/- The blocks of the first region read at an index of the arrays they are cut from. -/
module

public import proofs.«01_k».proof.Proof.Gen.KernelIdeal.Frame
public import Idealize.ShloMosaic.Lib.ValueIdx
public import Idealize.ShloMosaic.Lib.Pipeline.Value

@[expose] public section

noncomputable section

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F] [Named F]

variable (V : (c : Dev nD) → (b : Ref sig .tc) → Buf (Elt F) ((c : Thread nD τ).loc b))

theorem t_lt (t : Fin cfg0.N) : t.val < 16 := Nat.lt_of_lt_of_eq t.isLt N_0

theorem coord_val (t : Fin cfg0.N) : ((grid0.coords t) 0).val = t.val := by
  have h := Pipeline.Grid.coords_val (G := grid0) t 0 (S := 1) (B := 16) (by decide) (by decide)
  have := t_lt t
  rw [h]; omega

theorem index_in (t : Fin cfg0.N) : (cfg0.win 0).index t = ![t.val, 0, 0] := by
  show cc0_transform_0 (grid0.coords t) = _
  unfold cc0_transform_0
  have := t_lt t
  rw [coord_val]
  simp only [BitVec.toNat_ofNat]
  rw [Nat.mod_eq_of_lt (by omega)]

theorem index_out (t : Fin cfg0.N) : (cfg0.win 6).index t = ![t.val, 0, 0] := by
  show cc0_transform_6 (grid0.coords t) = _
  unfold cc0_transform_6
  have := t_lt t
  rw [coord_val]
  simp only [BitVec.toNat_ofNat]
  rw [Nat.mod_eq_of_lt (by omega)]

/-- The image block of a point. -/
theorem iblk0_image (c : Dev nD) (t : Fin cfg0.N) (b : Fin 4) (ch : Fin 384) (q : Fin 784) :
    iblk0 V c 0 t (ix3 b ch q) = V c main_v0 (ix3 (n0 := 64) (n1 := 384) (n2 := 784) ⟨4 * t.val + b.val, by have := t_lt t; omega⟩ ch q) := by
  refine congrArg (V c main_v0) (funext fun a => Fin.ext ?_)
  refine ((cfg0.win 0).rect_emb_val t (ix3 b ch q) a).trans ?_
  rw [index_in]
  match a with
  | ⟨0, _⟩ => show t.val * 4 + b.val = 4 * t.val + b.val; omega
  | ⟨1, _⟩ => show 0 * 384 + ch.val = ch.val; omega
  | ⟨2, _⟩ => show 0 * 784 + q.val = q.val; omega

theorem iblk0_taps (c : Dev nD) (t : Fin cfg0.N) : iblk0 V c 2 t = V c main_v2 := by
  funext y
  refine congrArg (V c main_v2) (funext fun a => Fin.ext ?_)
  exact (cfg0.win 2).rect_emb_val_of_index_zero t a (match a with | ⟨0, _⟩ => rfl | ⟨1, _⟩ => rfl) y

theorem iblk0_scale (c : Dev nD) (t : Fin cfg0.N) : iblk0 V c 3 t = V c main_v7 := by
  funext y
  refine congrArg (V c main_v7) (funext fun a => Fin.ext ?_)
  exact (cfg0.win 3).rect_emb_val_of_index_zero t a (match a with | ⟨0, _⟩ => rfl | ⟨1, _⟩ => rfl) y

theorem iblk0_shift (c : Dev nD) (t : Fin cfg0.N) : iblk0 V c 4 t = V c main_v11 := by
  funext y
  refine congrArg (V c main_v11) (funext fun a => Fin.ext ?_)
  exact (cfg0.win 4).rect_emb_val_of_index_zero t a (match a with | ⟨0, _⟩ => rfl | ⟨1, _⟩ => rfl) y

theorem iblk0_mix (c : Dev nD) (t : Fin cfg0.N) : iblk0 V c 5 t = V c main_v13 := by
  funext y
  refine congrArg (V c main_v13) (funext fun a => Fin.ext ?_)
  exact (cfg0.win 5).rect_emb_val_of_index_zero t a (match a with | ⟨0, _⟩ => rfl | ⟨1, _⟩ => rfl) y

theorem iblk1_pooled (c : Dev nD) (t : Fin cfg1.N) : iblk1 V c 0 t = V c main_v21 := by
  funext y
  refine congrArg (V c main_v21) (funext fun a => Fin.ext ?_)
  exact (cfg1.win 0).rect_emb_val_of_index_zero t a (match a with | ⟨0, _⟩ => rfl | ⟨1, _⟩ => rfl) y

theorem iblk1_fc (c : Dev nD) (t : Fin cfg1.N) : iblk1 V c 1 t = V c main_v22 := by
  funext y
  refine congrArg (V c main_v22) (funext fun a => Fin.ext ?_)
  exact (cfg1.win 1).rect_emb_val_of_index_zero t a (match a with | ⟨0, _⟩ => rfl | ⟨1, _⟩ => rfl) y

theorem iblk1_bias (c : Dev nD) (t : Fin cfg1.N) : iblk1 V c 2 t = V c main_v23 := by
  funext y
  refine congrArg (V c main_v23) (funext fun a => Fin.ext ?_)
  exact (cfg1.win 2).rect_emb_val_of_index_zero t a (match a with | ⟨0, _⟩ => rfl | ⟨1, _⟩ => rfl) y

/-- What the one point of the second region leaves in each result. -/
theorem arr_weights (c : Dev nD) : (dat1 V c).arrAt 3 cfg1.N = out1_3 (V c main_v21) (V c main_v22) (V c main_v23) := by
  refine (dat1 V c).arrAt_eq_of_cover 3 (out1_3 (V c main_v21) (V c main_v22) (V c main_v23)) (fun t _ => ?_) (fun i => ?_)
  · show (dat1 V c).after 3 t = _
    rw [after1_3, iblk1_pooled, iblk1_fc, iblk1_bias]
    funext y
    refine congrArg (out1_3 (V c main_v21) (V c main_v22) (V c main_v23)) (funext fun a => Fin.ext ?_)
    exact ((cfg1.win 3).rect_emb_val_of_index_zero t a (match a with | ⟨0, _⟩ => rfl | ⟨1, _⟩ => rfl) y).symm
  · refine ⟨t1_0, flush1_3 _, ?_⟩
    have h : ((cfg1.win 3).blk t1_0).view.emb i = i := funext fun a => Fin.ext
      ((cfg1.win 3).rect_emb_val_of_index_zero t1_0 a (match a with | ⟨0, _⟩ => rfl | ⟨1, _⟩ => rfl) i)
    exact h ▸ ((cfg1.win 3).blk t1_0).view.emb_mem_set i

theorem arr_indices (c : Dev nD) : (dat1 V c).arrAt 4 cfg1.N = out1_4 (V c main_v21) (V c main_v22) (V c main_v23) := by
  refine (dat1 V c).arrAt_eq_of_cover 4 (out1_4 (V c main_v21) (V c main_v22) (V c main_v23)) (fun t _ => ?_) (fun i => ?_)
  · show (dat1 V c).after 4 t = _
    rw [after1_4, iblk1_pooled, iblk1_fc, iblk1_bias]
    funext y
    refine congrArg (out1_4 (V c main_v21) (V c main_v22) (V c main_v23)) (funext fun a => Fin.ext ?_)
    exact ((cfg1.win 4).rect_emb_val_of_index_zero t a (match a with | ⟨0, _⟩ => rfl | ⟨1, _⟩ => rfl) y).symm
  · refine ⟨t1_0, flush1_4 _, ?_⟩
    have h : ((cfg1.win 4).blk t1_0).view.emb i = i := funext fun a => Fin.ext
      ((cfg1.win 4).rect_emb_val_of_index_zero t1_0 a (match a with | ⟨0, _⟩ => rfl | ⟨1, _⟩ => rfl) i)
    exact h ▸ ((cfg1.win 4).blk t1_0).view.emb_mem_set i

theorem arr_logits (c : Dev nD) : (dat1 V c).arrAt 5 cfg1.N = out1_5 (V c main_v21) (V c main_v22) (V c main_v23) := by
  refine (dat1 V c).arrAt_eq_of_cover 5 (out1_5 (V c main_v21) (V c main_v22) (V c main_v23)) (fun t _ => ?_) (fun i => ?_)
  · show (dat1 V c).after 5 t = _
    rw [after1_5, iblk1_pooled, iblk1_fc, iblk1_bias]
    funext y
    refine congrArg (out1_5 (V c main_v21) (V c main_v22) (V c main_v23)) (funext fun a => Fin.ext ?_)
    exact ((cfg1.win 5).rect_emb_val_of_index_zero t a (match a with | ⟨0, _⟩ => rfl | ⟨1, _⟩ => rfl) y).symm
  · refine ⟨t1_0, flush1_5 _, ?_⟩
    have h : ((cfg1.win 5).blk t1_0).view.emb i = i := funext fun a => Fin.ext
      ((cfg1.win 5).rect_emb_val_of_index_zero t1_0 a (match a with | ⟨0, _⟩ => rfl | ⟨1, _⟩ => rfl) i)
    exact h ▸ ((cfg1.win 5).blk t1_0).view.emb_mem_set i

end Cert.KernelIdeal.Arrays
-- ==== Proof.Body.Rules.lean ====
/- One memory operation of the convolution body at a time: a buffer is held by what it reads, a load continues at the
   rectangle read off it, and a store continues with the rectangle laid over it. -/
module

public import Idealize.ShloMosaic.Lib.Pipeline.FrameBody
public import Idealize.ShloMosaic.Lib.Tactic

@[expose] public section

noncomputable section

namespace Cert.Proof.Rules

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels} [Preorder Lvl] {defs : Defs nD τ sig Val Λ} (𝒱 : Variants) (c : Thread nD τ)
variable {s : Shape} {e : EltTy} {α : Type} {E : Set Name} {bd : Option 𝒱.V}
variable {Q : α → sProp (MT nD τ sig Ix Val Name U Lvl)}

/-- What a load through `r` reads of a buffer that reads `v`. -/
abbrev lds (v : s.Idx → Val e) (r : LoadRect s) : r.shape.Idx → Val e := fun x => v (r.idx x)

/-- A store through `r` leaves the rectangle laid over what the buffer read before. -/
theorem read_store {κ : Kind} {sp : Space} (v : View sig κ sp s e) (r : Rect s) (f : v.ty.Contents Val) (w : r.shape.Idx → Val e) :
    v.read Val ((v.slice r).write Val f w Finset.univ) = r.overlay (v.read Val f) w := by
  funext y
  by_cases hy : y ∈ r.set
  · obtain ⟨x, rfl⟩ := r.exists_idx_of_mem hy
    rw [show r.toLoadRect.idx x = r.emb x from rfl, r.overlay_emb]
    exact View.read_slice_write_emb r f w (Finset.mem_univ x)
  · rw [r.overlay_of_not_mem _ _ hy]
    exact View.read_slice_write_of_not_mem r f w _ (by rwa [Rect.map_emb_univ])

/-- A load at the head of a program, from an assertion that holds its buffer. -/
theorem load_step {cs : CoreSpace} {m : Memref sig c.2.kind cs s e} {r : LoadRect s} {hl : m.view.LoadsAt r}
    {k : (r.shape.Idx → Val e) → Prog (TpuEff nD τ sig Val Λ c.2) α} {P R : sProp (MT nD τ sig Ix Val Name U Lvl)} {v : s.Idx → Val e}
    (h : P ⊢ iprop(owns c m fullShare v ∗ R)) (h' : iprop(owns c m fullShare v ∗ R) ⊢ P)
    (hk : P ⊢ wp frame (wpE defs 𝒱 c bd) E (k (lds v r)) Q) :
    P ⊢ wp frame (wpE defs 𝒱 c bd) E (Prog.lift (.load m r hl) >>= k) Q := by
  refine h.trans ?_
  have hk' := h'.trans hk
  unfold owns at hk' ⊢
  iintro ⟨⟨%f, %hf, H⟩, HR⟩
  subst hf
  ihave H' := wp_load (k := k) (hl := hl) (Q := Q) (bd := bd) (defs := defs) 𝒱 c E (m.view.setOn_subset_set r.set) $$ H
  iapply H'
  iintro H
  iapply hk'
  isplitl [H]
  · iexists f
    isplitr
    · ipureintro; rfl
    iexact H
  iexact HR

/-- A store at the head of a program, from an assertion that holds its buffer to one that holds it with the rectangle
    laid over. -/
theorem store_step {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {P P' R : sProp (MT nD τ sig Ix Val Name U Lvl)} {v : s.Idx → Val e}
    (h : P ⊢ iprop(owns c m fullShare v ∗ R)) (h' : iprop(owns c m fullShare (r.overlay v w) ∗ R) ⊢ P')
    (hk : P' ⊢ wp frame (wpE defs 𝒱 c bd) E (k ⟨⟩) Q) :
    P ⊢ wp frame (wpE defs 𝒱 c bd) E (Prog.lift (.store m r w Finset.univ hx hm) >>= k) Q := by
  refine h.trans ?_
  have hk' := h'.trans hk
  unfold owns at hk' ⊢
  iintro ⟨⟨%f, %hf, H⟩, HR⟩
  subst hf
  ihave H' := wp_store (k := k) (hx := hx) (hm := hm) (w := w) (Q := Q) (bd := bd) (defs := defs) 𝒱 c E
    (S := m.view.set) (f := f) (by rw [View.setOn_univ, View.set_slice]; exact m.view.setOn_subset_set _) $$ H
  iapply H'
  iintro H
  iapply hk'
  isplitl [H]
  · iexists _
    isplitr
    · ipureintro; exact read_store m.view r f w
    iexact H
  iexact HR

/-- The head of a nested sequence is the head of the sequence. -/
theorem assoc_step {β γ : Type} {p : Prog (TpuEff nD τ sig Val Λ c.2) β} {f : β → Prog (TpuEff nD τ sig Val Λ c.2) γ}
    {k : γ → Prog (TpuEff nD τ sig Val Λ c.2) α} {P : sProp (MT nD τ sig Ix Val Name U Lvl)}
    (hk : P ⊢ wp frame (wpE defs 𝒱 c bd) E (p >>= fun a => f a >>= k) Q) :
    P ⊢ wp frame (wpE defs 𝒱 c bd) E (p >>= f >>= k) Q := by
  rw [Prog.bind_assoc]; exact hk

/-- A value at the head of a sequence is passed on. -/
theorem pure_step {β : Type} {a : β} {k : β → Prog (TpuEff nD τ sig Val Λ c.2) α} {P : sProp (MT nD τ sig Ix Val Name U Lvl)}
    (hk : P ⊢ wp frame (wpE defs 𝒱 c bd) E (k a) Q) :
    P ⊢ wp frame (wpE defs 𝒱 c bd) E (pure a >>= k) Q := hk

end Cert.Proof.Rules
-- ==== Proof.Body.Tile.lean ====
/- What the convolution body computes, in closed form over the three shifted slabs: one tile of the activation, the
   activation buffer after its first `n` stores, and the pooled row. -/
module

public import proofs.«01_k».proof.Proof.Gen.KernelIdeal
public import proofs.«01_k».proof.Proof.Body.Rules

@[expose] public section

noncomputable section

namespace Cert.KernelIdeal.Body

open Idealize.ShloMosaic Idealize.SL.Sem Cert.KernelIdeal Cert.KernelIdeal.Gen Cert.Proof.Rules

variable {F : FTy → Type} [FloatOps F] [Named F]

/-- Sixteen rows of zeros. -/
def zpad : FVec F S16x128 .f32 :=
  shapeCast S16x128 (broadcast S16x128 (Scalar.ofBits .f32 0x00000000#32)) shapeCasts_S16x128_S16x128

/-- A padded slab: sixteen rows of zeros, the 784 rows of `v`, sixteen rows of zeros. -/
def slab (v : FVec F S784x128 .f32) (X : Vec F S816x128 .f32) : Vec F S816x128 .f32 :=
  (Rect.unit (s := S816x128) ![800, 0] S16x128.size inb_S816x128_S16x128_800_0).overlay
    ((Rect.unit (s := S816x128) ![16, 0] S784x128.size inb_S816x128_S784x128_16_0).overlay
      ((Rect.unit (s := S816x128) ![0, 0] S16x128.size inb_S816x128_S16x128_0_0).overlay X zpad) v) zpad

theorem inb_row (p : Nat) (hp : p ≤ 789) : ∀ a, S14x128.size a = 0 ∨ ![p, 0] a + ![2, 1] a * (S14x128.size a - 1) < S816x128.size a := by
  refine Fin.forall_fin_two.mpr ⟨.inr ?_, .inr ?_⟩
  · show p + 2 * (14 - 1) < 816; omega
  · show 0 + 1 * (128 - 1) < 128; omega

/-- Row `n` of the nine weight rows lies in the weight buffer, in each third of its columns. -/
theorem inb_w9 (n j : Nat) (hn : n < 9) (hj : j < 3) : ∀ a, (![n, 128 * j] : Fin 2 → Nat) a + S1x128.size a ≤ S9x384.size a := by
  refine Fin.forall_fin_two.mpr ⟨?_, ?_⟩
  · show n + 1 ≤ 9; omega
  · show 128 * j + 128 ≤ 384; omega

/-- The one row of a per-channel buffer, in each third of its columns. -/
theorem inb_c (j : Nat) (hj : j < 3) : ∀ a, (![0, 128 * j] : Fin 2 → Nat) a + S1x128.size a ≤ S1x384.size a := by
  refine Fin.forall_fin_two.mpr ⟨?_, ?_⟩
  · show 0 + 1 ≤ 1; omega
  · show 128 * j + 128 ≤ 384; omega

/-- A third of the fourteen columns of a row of the activation. -/
theorem inb_act (i j : Nat) (hi : i < 14) (hj : j < 3) :
    ∀ a, (![i, 0, 128 * j] : Fin 3 → Nat) a + S1x14x128.size a ≤ S14x16x384.size a := by
  refine Fin.forall_fin_succ.mpr ⟨?_, Fin.forall_fin_two.mpr ⟨?_, ?_⟩⟩
  · show i + 1 ≤ 14; omega
  · show 0 + 14 ≤ 16; omega
  · show 128 * j + 128 ≤ 384; omega

/-- The last two columns of a row of the activation. -/
theorem inb_pad (i : Nat) (hi : i < 14) : ∀ a, (![i, 14, 0] : Fin 3 → Nat) a + S1x2x384.size a ≤ S14x16x384.size a := by
  refine Fin.forall_fin_succ.mpr ⟨?_, Fin.forall_fin_two.mpr ⟨?_, ?_⟩⟩
  · show i + 1 ≤ 14; omega
  · show 14 + 2 ≤ 16; omega
  · show 0 + 384 ≤ 384; omega

/-- A row of 128 numbers repeated fourteen times. -/
def rep (v : Vec F S1x128 .f32) : FVec F S14x128 .f32 :=
  broadcastTo S14x128 (shapeCast S1x128 v shapeCasts_S1x128_S1x128) broadcasts_S1x128_S14x128

/-- Zero in the first of fourteen rows, one below it. -/
def below : FVec F S14x128 .f32 :=
  sitofp .f32 (extui 32 (cmpi .ne (iota .tc S14x128 32 [0] iota_S14x128_d0_w32) (broadcast S14x128 0#32)) natLt_1_32)

/-- One tap: every other row of the slab from `p`, times the tap's weights. -/
def tap (X : Vec F S816x128 .f32) (w9 : Vec F S9x384 .f32) (p n j : Nat) (hp : p ≤ 789) (hn : n < 9) (hj : j < 3) : FVec F S14x128 .f32 :=
  mulf (lds X ⟨![p, 0], S14x128.size, ![2, 1], inb_row p hp⟩)
    (rep (lds w9 (Rect.unit (s := S9x384) ![n, 128 * j] S1x128.size (inb_w9 n j hn hj)).toLoadRect))

/-- The taps of one column offset, from the top; the first row of the activation has no upper one. -/
def taps (X : Vec F S816x128 .f32) (w9 : Vec F S9x384 .f32) (i j d : Nat) (hi : i < 14) (hj : j < 3) (hd : d < 3) : FVec F S14x128 .f32 :=
  cond (Nat.beq i 0)
    (addf (tap X w9 (56 * i + 15 + d) (3 + d) j (by omega) (by omega) hj)
      (tap X w9 (56 * i + 43 + d) (6 + d) j (by omega) (by omega) hj))
    (addf (addf (tap X w9 (56 * i + d - 13) d j (by omega) (by omega) hj)
        (tap X w9 (56 * i + 15 + d) (3 + d) j (by omega) (by omega) hj))
      (tap X w9 (56 * i + 43 + d) (6 + d) j (by omega) (by omega) hj))

/-- The normalised convolution of one tile, before the gate. -/
def pre (X : Vec F S816x128 .f32) (w9 : Vec F S9x384 .f32) (sc bi : Vec F S1x384 .f32) (i j : Nat) (hi : i < 14) (hj : j < 3) :
    FVec F S14x128 .f32 :=
  addf (mulf (addf (addf (mulf (taps X w9 i j 0 hi hj (by omega)) below) (taps X w9 i j 1 hi hj (by omega)))
        (taps X w9 i j 2 hi hj (by omega)))
      (rep (lds sc (Rect.unit (s := S1x384) ![0, 128 * j] S1x128.size (inb_c j hj)).toLoadRect)))
    (rep (lds bi (Rect.unit (s := S1x384) ![0, 128 * j] S1x128.size (inb_c j hj)).toLoadRect))

/-- One tile of the activation. -/
def tile (X : Vec F S816x128 .f32) (w9 : Vec F S9x384 .f32) (sc bi : Vec F S1x384 .f32) (i j : Nat) (hi : i < 14) (hj : j < 3) :
    FVec F S1x14x128 .f32 :=
  shapeCast S1x14x128 (mulf (pre X w9 sc bi i j hi hj) (logistic (pre X w9 sc bi i j hi hj))) shapeCasts_S14x128_S1x14x128

/-- The two columns of zeros at the end of a row of the activation. -/
def zrow : FVec F S1x2x384 .f32 :=
  shapeCast S1x2x384 (broadcast S2x384 (Scalar.ofBits .f32 0x00000000#32)) shapeCasts_S2x384_S1x2x384

/-- The slab of a third of the columns. -/
def pick {α : Type} (X0 X1 X2 : α) (j : Nat) : α := cond (Nat.beq j 0) X0 (cond (Nat.beq j 1) X1 X2)

/-- The activation buffer after one more of its stores: three tiles and a pair of zero columns a row. -/
def actStep (w9 : Vec F S9x384 .f32) (sc bi : Vec F S1x384 .f32) (X0 X1 X2 : Vec F S816x128 .f32) (n : Nat) (A : Vec F S14x16x384 .f32) :
    Vec F S14x16x384 .f32 :=
  cond (Nat.beq (n % 4) 3)
    ((Rect.unit (s := S14x16x384) ![n / 4 % 14, 14, 0] S1x2x384.size (inb_pad (n / 4 % 14) (by omega))).overlay A zrow)
    ((Rect.unit (s := S14x16x384) ![n / 4 % 14, 0, 128 * (n % 4 % 3)] S1x14x128.size
        (inb_act (n / 4 % 14) (n % 4 % 3) (by omega) (by omega))).overlay A
      (tile (pick X0 X1 X2 (n % 4 % 3)) w9 sc bi (n / 4 % 14) (n % 4 % 3) (by omega) (by omega)))

/-- The activation buffer after its first `n` stores. -/
def actSt (w9 : Vec F S9x384 .f32) (sc bi : Vec F S1x384 .f32) (X0 X1 X2 : Vec F S816x128 .f32) (A : Vec F S14x16x384 .f32) :
    Nat → Vec F S14x16x384 .f32
  | 0 => A
  | n + 1 => actStep w9 sc bi X0 X1 X2 n (actSt w9 sc bi X0 X1 X2 A n)

theorem inb_x (b : Nat) (hb : b < 4) : ∀ a, (![b, 0, 0] : Fin 3 → Nat) a + S1x384x784.size a ≤ S4x384x784.size a := by
  refine Fin.forall_fin_succ.mpr ⟨?_, Fin.forall_fin_two.mpr ⟨?_, ?_⟩⟩
  · show b + 1 ≤ 4; omega
  · show 0 + 384 ≤ 384; omega
  · show 0 + 784 ≤ 784; omega

theorem inb_out (b : Nat) (hb : b < 4) : ∀ a, (![b, 0, 0] : Fin 3 → Nat) a + S1x1x24.size a ≤ S4x1x24.size a := by
  refine Fin.forall_fin_succ.mpr ⟨?_, Fin.forall_fin_two.mpr ⟨?_, ?_⟩⟩
  · show b + 1 ≤ 4; omega
  · show 0 + 1 ≤ 1; omega
  · show 0 + 24 ≤ 24; omega

/-- The pixels of image `b` by channel. -/
def image (x : Vec F S4x384x784 .f32) (b : Nat) (hb : b < 4) : FVec F S784x384 .f32 :=
  transpose S784x384 [1, 0] (shapeCast S384x784
    (lds x (Rect.unit (s := S4x384x784) ![b, 0, 0] S1x384x784.size (inb_x b hb)).toLoadRect) shapeCasts_S1x384x784_S384x784)
    transposes_S384x784_p1_0_S784x384

/-- The slab of the channels from `o`, over anything. -/
def slabOf (x : Vec F S4x384x784 .f32) (b : Nat) (hb : b < 4) (o : Nat) (ho : S784x384.Slices ![0, o] S784x128)
    (X : Vec F S816x128 .f32) : Vec F S816x128 .f32 :=
  slab (shapeCast S784x128 (extractStridedSlice S784x128 ![0, o] (image x b hb) ho) shapeCasts_S784x128_S784x128) X

/-- What the scratch buffers held before a batch. -/
structure Junk (F : FTy → Type) where
  X0 : Vec F S816x128 .f32
  X1 : Vec F S816x128 .f32
  X2 : Vec F S816x128 .f32
  A : Vec F S14x16x384 .f32

/-- The activation of image `b`, padded with two columns of zeros. -/
def actOf (x : Vec F S4x384x784 .f32) (w9 : Vec F S9x384 .f32) (sc bi : Vec F S1x384 .f32) (b : Nat) (hb : b < 4) (g : Junk F) :
    Vec F S14x16x384 .f32 :=
  actSt w9 sc bi (slabOf x b hb 0 slices_S784x384_o0_0_S784x128 g.X0) (slabOf x b hb 128 slices_S784x384_o0_128_S784x128 g.X1)
    (slabOf x b hb 256 slices_S784x384_o0_256_S784x128 g.X2) g.A 56

/-- The channel products of an activation. -/
def mixed (A : Vec F S14x16x384 .f32) (pw : Vec F S384x24 .f32) : FVec F S224x24 .f32 :=
  matmul dot_S224x384_S384x24_S224x24_1_0_0_1_n_n none
    (shapeCast S224x384 (lds A (Rect.unit (s := S14x16x384) ![0, 0, 0] S14x16x384.size inb_S14x16x384_S14x16x384_0_0_0).toLoadRect)
      shapeCasts_S14x16x384_S224x384)
    (shapeCast S384x24 (lds pw (Rect.unit (s := S384x24) ![0, 0] S384x24.size inb_S384x24_S384x24_0_0).toLoadRect)
      shapeCasts_S384x24_S384x24) (constant S224x24 .f32 0x00000000#32)

/-- The pooled row of an activation. -/
def pool (A : Vec F S14x16x384 .f32) (pw : Vec F S384x24 .f32) : FVec F S1x1x24 .f32 :=
  shapeCast S1x1x24 (mulf (multiReduction .add [0] S24 (mulf (mixed A pw) (logistic (mixed A pw))) 0x00000000#32 reduces_S224x24_S24
    (.inl rfl) rfl) (broadcast S24 (Named.named κ "inv_hw" 0x3BA72F05#32))) shapeCasts_S24_S1x1x24

/-- The output block after the pooled row of image `b`. -/
def putRow (x : Vec F S4x384x784 .f32) (w9 : Vec F S9x384 .f32) (sc bi : Vec F S1x384 .f32) (pw : Vec F S384x24 .f32) (b : Nat) (hb : b < 4)
    (g : Junk F) (O : Vec F S4x1x24 .f32) : Vec F S4x1x24 .f32 :=
  (Rect.unit (s := S4x1x24) ![b, 0, 0] S1x1x24.size (inb_out b hb)).overlay O (pool (actOf x w9 sc bi b hb g) pw)

/-- The output block after the four images. -/
def outOf (x : Vec F S4x384x784 .f32) (w9 : Vec F S9x384 .f32) (sc bi : Vec F S1x384 .f32) (pw : Vec F S384x24 .f32) (g : Nat → Junk F)
    (O : Vec F S4x1x24 .f32) : Vec F S4x1x24 .f32 :=
  putRow x w9 sc bi pw 3 (by omega) (g 3) (putRow x w9 sc bi pw 2 (by omega) (g 2)
    (putRow x w9 sc bi pw 1 (by omega) (g 1) (putRow x w9 sc bi pw 0 (by omega) (g 0) O)))

end Cert.KernelIdeal.Body
-- ==== Proof.Body.Read.lean ====
/- The convolution body's output block read at an index: what the scratch buffers held before plays no part in it. -/
module

public import proofs.«01_k».proof.Proof.Body.Tile
public import Idealize.ShloMosaic.Lib.ValueIdx
public import Idealize.ShloMosaic.Lib.Pipeline.Value

@[expose] public section

noncomputable section

namespace Cert.KernelIdeal.Body

open Idealize.ShloMosaic Idealize.ShloMosaic.ValueIdx Cert.KernelIdeal Cert.KernelIdeal.Gen Cert.Proof.Rules

/-- Inside the replaced rectangle an overlay reads the new values. -/
theorem overlay_in {s : Shape} {α : Type} (off size : Fin s.rank → Nat) (inb : ∀ a, off a + size a ≤ s.size a) (X : s.Idx → α)
    (G : (Rect.unit off size inb).shape.Idx → α) (y : s.Idx) (z : (Rect.unit off size inb).shape.Idx)
    (h : ∀ a, (y a).val = off a + (z a).val) : (Rect.unit off size inb).overlay X G y = G z := by
  have hy : (Rect.unit off size inb).emb z = y := funext fun a => Fin.ext (by
    show off a + 1 * (z a).val = (y a).val
    rw [h a, Nat.one_mul])
  rw [← hy, Rect.overlay_emb]

/-- Outside it, the old ones. -/
theorem overlay_out {s : Shape} {α : Type} (off size : Fin s.rank → Nat) (inb : ∀ a, off a + size a ≤ s.size a) (X : s.Idx → α)
    (G : (Rect.unit off size inb).shape.Idx → α) (y : s.Idx) (a : Fin s.rank) (h : (y a).val < off a ∨ off a + size a ≤ (y a).val) :
    (Rect.unit off size inb).overlay X G y = X y := by
  refine Rect.overlay_of_not_mem _ _ _ fun hm => ?_
  have := Rect.mem_set_unit.mp hm a
  omega

variable {F : FTy → Type} [FloatOps F] [Named F]

/-- The zero the body pads with. -/
def zero : F .f32 := Scalar.ofBits .f32 0x00000000#32

/-- A padded slab, whatever was there before. -/
def padded (v : FVec F S784x128 .f32) : Vec F S816x128 .f32 := fun y =>
  if h : 16 ≤ (y 0).val ∧ (y 0).val < 800 then
    v (ix2 (n0 := 784) (n1 := 128) ⟨(y 0).val - 16, by omega⟩ ⟨(y 1).val, (y 1).isLt⟩) else zero

theorem slab_eq (v : FVec F S784x128 .f32) (X : Vec F S816x128 .f32) : slab v X = padded v := by
  funext y
  have hy0 : (y 0).val < 816 := (y 0).isLt
  have hy1 : (y 1).val < 128 := (y 1).isLt
  unfold slab padded
  by_cases h1 : (y 0).val < 16
  · rw [overlay_out _ _ _ _ _ y 0 (.inl (by show (y 0).val < 800; omega)),
      overlay_out _ _ _ _ _ y 0 (.inl (by show (y 0).val < 16; omega)),
      overlay_in (s := S816x128) ![0, 0] S16x128.size _ _ _ y (ix2 (n0 := 16) (n1 := 128) ⟨(y 0).val, h1⟩ ⟨(y 1).val, hy1⟩) (Fin.forall_fin_two.mpr
        ⟨by show (y 0).val = 0 + (y 0).val; omega, by show (y 1).val = 0 + (y 1).val; omega⟩),
      dif_neg (by omega)]
    rfl
  · by_cases h2 : (y 0).val < 800
    · rw [overlay_out _ _ _ _ _ y 0 (.inl (by show (y 0).val < 800; omega)),
        overlay_in (s := S816x128) ![16, 0] S784x128.size _ _ _ y (ix2 (n0 := 784) (n1 := 128) ⟨(y 0).val - 16, by omega⟩ ⟨(y 1).val, hy1⟩) (Fin.forall_fin_two.mpr
        ⟨by show (y 0).val = 16 + ((y 0).val - 16); omega, by show (y 1).val = 0 + (y 1).val; omega⟩),
        dif_pos ⟨by omega, h2⟩]
    · rw [overlay_in (s := S816x128) ![800, 0] S16x128.size _ _ _ y (ix2 (n0 := 16) (n1 := 128) ⟨(y 0).val - 800, by omega⟩ ⟨(y 1).val, hy1⟩) (Fin.forall_fin_two.mpr
        ⟨by show (y 0).val = 800 + ((y 0).val - 800); omega, by show (y 1).val = 0 + (y 1).val; omega⟩),
        dif_neg (by omega)]
      rfl

/-- One number of the activation. -/
def cell (w9 : Vec F S9x384 .f32) (sc bi : Vec F S1x384 .f32) (X0 X1 X2 : Vec F S816x128 .f32) : Vec F S14x16x384 .f32 := fun y =>
  if h : (y 1).val < 14 then
    tile (pick X0 X1 X2 ((y 2).val / 128)) w9 sc bi (y 0).val ((y 2).val / 128) (y 0).isLt
      (by have : (y 2).val < 384 := (y 2).isLt; omega)
      (ix3 (n0 := 1) (n1 := 14) (n2 := 128) 0 ⟨(y 1).val, h⟩ ⟨(y 2).val % 128, Nat.mod_lt _ (by omega)⟩)
  else zero

theorem tile_at (w9 : Vec F S9x384 .f32) (sc bi : Vec F S1x384 .f32) (X0 X1 X2 : Vec F S816x128 .f32) {i j i' j' : Nat} (hi : i < 14) (hj : j < 3)
    (hi' : i' < 14) (hj' : j' < 3) (ei : i = i') (ej : j = j') (z : S1x14x128.Idx) :
    tile (pick X0 X1 X2 j) w9 sc bi i j hi hj z = tile (pick X0 X1 X2 j') w9 sc bi i' j' hi' hj' z := by
  subst ei; subst ej; rfl

/-- The place in the order of stores of the store an index is written by. -/
def turn (y : S14x16x384.Idx) : Nat := 4 * (y 0).val + if (y 1).val < 14 then (y 2).val / 128 else 3

theorem actStep_eq (w9 : Vec F S9x384 .f32) (sc bi : Vec F S1x384 .f32) (X0 X1 X2 : Vec F S816x128 .f32) (n : Nat) (hn : n < 56)
    (A : Vec F S14x16x384 .f32) (y : S14x16x384.Idx) :
    actStep w9 sc bi X0 X1 X2 n A y = if turn y = n then cell w9 sc bi X0 X1 X2 y else A y := by
  have h0 : (y 0).val < 14 := (y 0).isLt
  have h1 : (y 1).val < 16 := (y 1).isLt
  have h2 : (y 2).val < 384 := (y 2).isLt
  have ht : turn y = 4 * (y 0).val + if (y 1).val < 14 then (y 2).val / 128 else 3 := rfl
  unfold actStep
  by_cases h3 : n % 4 = 3
  · rw [show Nat.beq (n % 4) 3 = true from Nat.beq_eq.mpr h3, cond_true]
    by_cases hm : turn y = n
    · have hge : ¬ (y 1).val < 14 := by intro h; rw [if_pos h] at ht; omega
      rw [if_neg hge] at ht
      rw [if_pos hm]
      rw [overlay_in (s := S14x16x384) ![n / 4 % 14, 14, 0] S1x2x384.size _ _ _ y (ix3 (n0 := 1) (n1 := 2) (n2 := 384) 0 ⟨(y 1).val - 14, by omega⟩ ⟨(y 2).val, h2⟩)
        (Fin.forall_fin_succ.mpr ⟨by show (y 0).val = n / 4 % 14 + 0; omega, Fin.forall_fin_two.mpr
          ⟨by show (y 1).val = 14 + ((y 1).val - 14); omega, by show (y 2).val = 0 + (y 2).val; omega⟩⟩)]
      unfold cell; rw [dif_neg hge]; rfl
    · rw [if_neg hm]
      by_cases h : (y 1).val < 14
      · exact overlay_out _ _ _ _ _ y 1 (.inl h)
      · rw [if_neg h] at ht
        exact overlay_out _ _ _ _ _ y 0 (by show (y 0).val < n / 4 % 14 ∨ n / 4 % 14 + 1 ≤ (y 0).val; omega)
  · rw [show Nat.beq (n % 4) 3 = false from Bool.eq_false_iff.mpr fun h => h3 (Nat.beq_eq.mp h), cond_false]
    by_cases hm : turn y = n
    · have hlt : (y 1).val < 14 := by by_contra h; rw [if_neg h] at ht; omega
      rw [if_pos hlt] at ht
      rw [if_pos hm]
      rw [overlay_in (s := S14x16x384) ![n / 4 % 14, 0, 128 * (n % 4 % 3)] S1x14x128.size _ _ _ y (ix3 (n0 := 1) (n1 := 14) (n2 := 128) 0 ⟨(y 1).val, hlt⟩ ⟨(y 2).val % 128, Nat.mod_lt _ (by omega)⟩)
        (Fin.forall_fin_succ.mpr ⟨by show (y 0).val = n / 4 % 14 + 0; omega, Fin.forall_fin_two.mpr
          ⟨by show (y 1).val = 0 + (y 1).val; omega, by show (y 2).val = 128 * (n % 4 % 3) + (y 2).val % 128; omega⟩⟩)]
      unfold cell; rw [dif_pos hlt]
      exact tile_at w9 sc bi X0 X1 X2 _ _ _ _ (by omega) (by omega) _
    · rw [if_neg hm]
      by_cases h : (y 1).val < 14
      · rw [if_pos h] at ht
        by_cases h00 : (y 0).val = n / 4 % 14
        · exact overlay_out _ _ _ _ _ y 2 (by show (y 2).val < 128 * (n % 4 % 3) ∨ 128 * (n % 4 % 3) + 128 ≤ (y 2).val; omega)
        · exact overlay_out _ _ _ _ _ y 0 (by show (y 0).val < n / 4 % 14 ∨ n / 4 % 14 + 1 ≤ (y 0).val; omega)
      · exact overlay_out _ _ _ _ _ y 1 (.inr (by show 0 + 14 ≤ (y 1).val; omega))

theorem actSt_eq (w9 : Vec F S9x384 .f32) (sc bi : Vec F S1x384 .f32) (X0 X1 X2 : Vec F S816x128 .f32) (A : Vec F S14x16x384 .f32)
    (y : S14x16x384.Idx) : ∀ n, n ≤ 56 → actSt w9 sc bi X0 X1 X2 A n y = if turn y < n then cell w9 sc bi X0 X1 X2 y else A y
  | 0, _ => by rw [if_neg (Nat.not_lt_zero _)]; rfl
  | n + 1, h => by
    show actStep w9 sc bi X0 X1 X2 n _ y = _
    rw [actStep_eq w9 sc bi X0 X1 X2 n (by omega), actSt_eq w9 sc bi X0 X1 X2 A y n (by omega)]
    by_cases h1 : turn y = n
    · rw [if_pos h1, if_pos (by omega)]
    · by_cases h2 : turn y < n
      · rw [if_neg h1, if_pos h2, if_pos (by omega)]
      · rw [if_neg h1, if_neg h2, if_neg (by omega)]

/-- The channels of image `b` from `o`. -/
def third (x : Vec F S4x384x784 .f32) (b : Nat) (hb : b < 4) (o : Nat) (ho : S784x384.Slices ![0, o] S784x128) : FVec F S784x128 .f32 :=
  shapeCast S784x128 (extractStridedSlice S784x128 ![0, o] (image x b hb) ho) shapeCasts_S784x128_S784x128

/-- The activation of image `b`. -/
def act (x : Vec F S4x384x784 .f32) (w9 : Vec F S9x384 .f32) (sc bi : Vec F S1x384 .f32) (b : Nat) (hb : b < 4) : Vec F S14x16x384 .f32 :=
  cell w9 sc bi (padded (third x b hb 0 slices_S784x384_o0_0_S784x128)) (padded (third x b hb 128 slices_S784x384_o0_128_S784x128))
    (padded (third x b hb 256 slices_S784x384_o0_256_S784x128))

theorem actOf_eq (x : Vec F S4x384x784 .f32) (w9 : Vec F S9x384 .f32) (sc bi : Vec F S1x384 .f32) (b : Nat) (hb : b < 4) (g : Junk F) :
    actOf x w9 sc bi b hb g = act x w9 sc bi b hb := by
  funext y
  have h0 : (y 0).val < 14 := (y 0).isLt
  have h2 : (y 2).val < 384 := (y 2).isLt
  unfold actOf act slabOf third
  rw [slab_eq, slab_eq, slab_eq, actSt_eq _ _ _ _ _ _ _ _ 56 le_rfl, if_pos]
  unfold turn; split <;> omega

/-- The output block: one pooled row an image. -/
def block (x : Vec F S4x384x784 .f32) (w9 : Vec F S9x384 .f32) (sc bi : Vec F S1x384 .f32) (pw : Vec F S384x24 .f32) : Vec F S4x1x24 .f32 :=
  fun y => pool (act x w9 sc bi (y 0).val (y 0).isLt) pw (ix3 (n0 := 1) (n1 := 1) (n2 := 24) 0 0 ⟨(y 2).val, (y 2).isLt⟩)

theorem putRow_hit (x : Vec F S4x384x784 .f32) (w9 : Vec F S9x384 .f32) (sc bi : Vec F S1x384 .f32) (pw : Vec F S384x24 .f32) (b : Nat)
    (hb : b < 4) (g : Junk F) (O : Vec F S4x1x24 .f32) (y : S4x1x24.Idx) (h : (y 0).val = b) :
    putRow x w9 sc bi pw b hb g O y = block x w9 sc bi pw y := by
  subst h
  unfold putRow block
  rw [actOf_eq]
  have h1 : (y 1).val < 1 := (y 1).isLt
  exact overlay_in (s := S4x1x24) ![(y 0).val, 0, 0] S1x1x24.size _ _ _ y _ (Fin.forall_fin_succ.mpr ⟨by show (y 0).val = (y 0).val + 0; omega, Fin.forall_fin_two.mpr
    ⟨by show (y 1).val = 0 + 0; omega, by show (y 2).val = 0 + (y 2).val; omega⟩⟩)

theorem putRow_miss (x : Vec F S4x384x784 .f32) (w9 : Vec F S9x384 .f32) (sc bi : Vec F S1x384 .f32) (pw : Vec F S384x24 .f32) (b : Nat)
    (hb : b < 4) (g : Junk F) (O : Vec F S4x1x24 .f32) (y : S4x1x24.Idx) (h : (y 0).val ≠ b) :
    putRow x w9 sc bi pw b hb g O y = O y :=
  overlay_out _ _ _ _ _ y 0 (by show (y 0).val < b ∨ b + 1 ≤ (y 0).val; omega)

/-- The output block does not depend on what the buffers held. -/
theorem outOf_eq (x : Vec F S4x384x784 .f32) (w9 : Vec F S9x384 .f32) (sc bi : Vec F S1x384 .f32) (pw : Vec F S384x24 .f32) (g : Nat → Junk F)
    (O : Vec F S4x1x24 .f32) : outOf x w9 sc bi pw g O = block x w9 sc bi pw := by
  funext y
  have h0 : (y 0).val < 4 := (y 0).isLt
  unfold outOf
  by_cases h3 : (y 0).val = 3
  · exact putRow_hit _ _ _ _ _ _ _ _ _ y h3
  rw [putRow_miss _ _ _ _ _ _ _ _ _ y h3]
  by_cases h2 : (y 0).val = 2
  · exact putRow_hit _ _ _ _ _ _ _ _ _ y h2
  rw [putRow_miss _ _ _ _ _ _ _ _ _ y h2]
  by_cases h1 : (y 0).val = 1
  · exact putRow_hit _ _ _ _ _ _ _ _ _ y h1
  rw [putRow_miss _ _ _ _ _ _ _ _ _ y h1]
  exact putRow_hit _ _ _ _ _ _ _ _ _ y (by omega)

end Cert.KernelIdeal.Body
-- ==== Proof.Body.Conv.lean ====
/- One number of the activation at the ideal values: the nine taps of the padded image, scaled and shifted, times its own logistic. -/
module

public import proofs.«01_k».proof.Proof.Body.Read
public import proofs.«01_k».proof.Proof.Math.Conv
public import Idealize.ShloMosaic.PureOps.Ideal.Laws

@[expose] public section

noncomputable section

namespace Cert.KernelIdeal.Body

open Idealize.ShloMosaic Idealize.ShloMosaic.ValueIdx Cert.KernelIdeal Cert.KernelIdeal.Gen Cert.Proof.Rules Cert.Math

/-- A load reads its operand at the offset index. -/
theorem lds_apply {s : Shape} {α : EltTy → Type} {e : EltTy} (v : s.Idx → α e) (r : LoadRect s) (z : r.shape.Idx) (y : s.Idx)
    (h : ∀ a, (y a).val = r.off a + r.stride a * (z a).val) : lds v r z = v y :=
  congrArg v (funext fun a => Fin.ext (h a).symm)

theorem zero_ideal : zero (F := Ideal) = (0 : EReal) := Ideal.ofBits_zero_f32

theorem rep_apply (v : Vec Ideal S1x128 .f32) (a : Fin 14) (l : Fin 128) :
    rep v (ix2 a l) = v (ix2 (n0 := 1) (n1 := 128) 0 l) := by
  unfold rep
  rw [shapeCast_self]
  exact broadcastTo_apply v broadcasts_S1x128_S14x128 (ix2 a l) _ (Fin.forall_fin_two.mpr ⟨rfl, rfl⟩)

theorem below_word : ∀ a : Fin 14, ((IntOp.cmpi .ne (BitVec.ofNat 32 a.val) 0#32).setWidth 32).toInt = if a.val = 0 then 0 else 1 := by
  decide

theorem below_apply (a : Fin 14) (l : Fin 128) : below (F := Ideal) (ix2 a l) = if a.val = 0 then (0 : EReal) else 1 := by
  have h : below (F := Ideal) (ix2 a l)
      = ((((IntOp.cmpi .ne (BitVec.ofNat 32 a.val) 0#32).setWidth 32).toInt : ℝ) : EReal) := by
    have e := iota_single_apply .tc S14x128 32 0 iota_S14x128_d0_w32 (ix2 (n0 := 14) (n1 := 128) a l)
    show ((((IntOp.cmpi .ne (iota .tc S14x128 32 [0] iota_S14x128_d0_w32 (ix2 (n0 := 14) (n1 := 128) a l)) 0#32).setWidth 32).toInt : ℝ) : EReal) = _
    rw [e]
  rw [h, below_word]
  split <;> simp

/-- A tap's pixel. -/
def at2 (X : Vec Ideal S816x128 .f32) (p : Nat) (l : Fin 128) : EReal :=
  if h : p < 816 then X (ix2 (n0 := 816) (n1 := 128) ⟨p, h⟩ l) else 0

theorem tap_apply (X : Vec Ideal S816x128 .f32) (w9 : Vec Ideal S9x384 .f32) (p n j : Nat) (hp : p ≤ 789) (hn : n < 9) (hj : j < 3)
    (a : Fin 14) (l : Fin 128) :
    tap X w9 p n j hp hn hj (ix2 a l)
      = at2 X (p + 2 * a.val) l * w9 (ix2 (n0 := 9) (n1 := 384) ⟨n, hn⟩ ⟨128 * j + l.val, by omega⟩) := by
  unfold tap
  rw [mulf_apply, rep_apply]
  show _ * _ = _
  unfold at2
  rw [dif_pos (by omega)]
  congr 1
  · exact lds_apply X _ _ _ (Fin.forall_fin_two.mpr ⟨rfl, by show l.val = 0 + 1 * l.val; omega⟩)
  · exact lds_apply w9 _ _ _ (Fin.forall_fin_two.mpr ⟨by show n = n + 1 * 0; omega, by show 128 * j + l.val = 128 * j + 1 * l.val; omega⟩)

/-- The weight of tap `(e, d)` at a channel. -/
def wt (w9 : Vec Ideal S9x384 .f32) (ch : Fin 384) (e d : Nat) : EReal :=
  if h : 3 * e + d < 9 then w9 (ix2 (n0 := 9) (n1 := 384) ⟨3 * e + d, h⟩ ch) else 0

theorem taps_apply (X : Vec Ideal S816x128 .f32) (w9 : Vec Ideal S9x384 .f32) (i j d : Nat) (hi : i < 14) (hj : j < 3) (hd : d < 3)
    (a : Fin 14) (l : Fin 128) (T : Nat → Nat → EReal) (h : ∀ e, e < 3 → (i = 0 → e ≠ 0) → T e d = at2 X (56 * i + 28 * e + d - 13 + 2 * a.val) l) :
    taps X w9 i j d hi hj hd (ix2 a l)
      = if i = 0 then low T (wt w9 ⟨128 * j + l.val, by omega⟩) d else col T (wt w9 ⟨128 * j + l.val, by omega⟩) d := by
  have h1 : T 1 d = at2 X (56 * i + 15 + d + 2 * a.val) l := by
    rw [h 1 (by omega) (fun _ => by omega)]; congr 1; omega
  have h2 : T 2 d = at2 X (56 * i + 43 + d + 2 * a.val) l := by
    rw [h 2 (by omega) (fun _ => by omega)]; congr 1; omega
  have w0 : wt w9 ⟨128 * j + l.val, by omega⟩ 0 d = w9 (ix2 (n0 := 9) (n1 := 384) ⟨d, by omega⟩ ⟨128 * j + l.val, by omega⟩) := by
    unfold wt; rw [dif_pos (by omega)]; congr 2; exact Fin.ext (by show 3 * 0 + d = d; omega)
  have w1 : wt w9 ⟨128 * j + l.val, by omega⟩ 1 d = w9 (ix2 (n0 := 9) (n1 := 384) ⟨3 + d, by omega⟩ ⟨128 * j + l.val, by omega⟩) := by
    unfold wt; rw [dif_pos (by omega)]
  have w2 : wt w9 ⟨128 * j + l.val, by omega⟩ 2 d = w9 (ix2 (n0 := 9) (n1 := 384) ⟨6 + d, by omega⟩ ⟨128 * j + l.val, by omega⟩) := by
    unfold wt; rw [dif_pos (by omega)]
  unfold taps
  by_cases h0 : i = 0
  · rw [if_pos h0, show Nat.beq i 0 = true from Nat.beq_eq.mpr h0, cond_true, addf_apply, tap_apply, tap_apply]
    unfold low
    rw [h1, h2, w1, w2]
  · have h00 : T 0 d = at2 X (56 * i + d - 13 + 2 * a.val) l := by
      rw [h 0 (by omega) (fun h => absurd h h0)]; congr 1
    rw [if_neg h0, show Nat.beq i 0 = false from Bool.eq_false_iff.mpr fun h => h0 (Nat.beq_eq.mp h), cond_false, addf_apply, addf_apply,
      tap_apply, tap_apply, tap_apply]
    unfold col
    rw [h00, h1, h2, w0, w1, w2]

/-- The masked sum of the three columns is the nine taps row by row, when the image is zero wherever the kernel leaves a tap out. -/
theorem sum_apply (X : Vec Ideal S816x128 .f32) (w9 : Vec Ideal S9x384 .f32) (i j : Nat) (hi : i < 14) (hj : j < 3)
    (a : Fin 14) (l : Fin 128) (P : Nat → Nat → EReal)
    (hP : ∀ e d, e < 3 → d < 3 → (i = 0 → e ≠ 0) → (a.val = 0 → d ≠ 0) → at2 X (56 * i + 28 * e + d - 13 + 2 * a.val) l = P e d)
    (hr : i = 0 → ∀ d, P 0 d = 0) (hc : a.val = 0 → ∀ e, P e 0 = 0) :
    addf (addf (mulf (taps X w9 i j 0 hi hj (by omega)) below) (taps X w9 i j 1 hi hj (by omega))) (taps X w9 i j 2 hi hj (by omega)) (ix2 a l)
      = rows P (wt w9 ⟨128 * j + l.val, by omega⟩) := by
  rw [addf_apply, addf_apply, mulf_apply, below_apply]
  have side : ∀ d (hd : d < 3), (a.val = 0 → d ≠ 0) →
      taps X w9 i j d hi hj hd (ix2 a l) = col P (wt w9 ⟨128 * j + l.val, by omega⟩) d := by
    intro d hd hne
    rw [taps_apply X w9 i j d hi hj hd a l P (fun e he hi0 => (hP e d he hd hi0 hne).symm)]
    by_cases h0 : i = 0
    · rw [if_pos h0]; exact low_eq P P _ d (hr h0 d) rfl rfl
    · rw [if_neg h0]
  rw [side 1 (by omega) (fun _ => by omega), side 2 (by omega) (fun _ => by omega), ← rows_eq]
  by_cases ha : a.val = 0
  · rw [if_pos ha, col_zero P _ 0 (hc ha)]
    show (_ * (0 : EReal) + _) + _ = _
    rw [mul_zero]
  · rw [if_neg ha, side 0 (by omega) (fun h => absurd h ha)]
    show (_ * (1 : EReal) + _) + _ = _
    rw [mul_one]

/-- One number times its own logistic. -/
def silu (v : EReal) : EReal := v * Ideal.logistic v

theorem tile_apply (X : Vec Ideal S816x128 .f32) (w9 : Vec Ideal S9x384 .f32) (sc bi : Vec Ideal S1x384 .f32) (i j : Nat) (hi : i < 14) (hj : j < 3)
    (a : Fin 14) (l : Fin 128) (P : Nat → Nat → EReal)
    (hP : ∀ e d, e < 3 → d < 3 → (i = 0 → e ≠ 0) → (a.val = 0 → d ≠ 0) → at2 X (56 * i + 28 * e + d - 13 + 2 * a.val) l = P e d)
    (hr : i = 0 → ∀ d, P 0 d = 0) (hc : a.val = 0 → ∀ e, P e 0 = 0) :
    tile X w9 sc bi i j hi hj (ix3 (n0 := 1) (n1 := 14) (n2 := 128) 0 a l)
      = silu (rows P (wt w9 ⟨128 * j + l.val, by omega⟩) * sc (ix2 (n0 := 1) (n1 := 384) 0 ⟨128 * j + l.val, by omega⟩)
          + bi (ix2 (n0 := 1) (n1 := 384) 0 ⟨128 * j + l.val, by omega⟩)) := by
  have e : pre X w9 sc bi i j hi hj (ix2 a l)
      = rows P (wt w9 ⟨128 * j + l.val, by omega⟩) * sc (ix2 (n0 := 1) (n1 := 384) 0 ⟨128 * j + l.val, by omega⟩)
          + bi (ix2 (n0 := 1) (n1 := 384) 0 ⟨128 * j + l.val, by omega⟩) := by
    unfold pre
    rw [addf_apply, mulf_apply, sum_apply X w9 i j hi hj a l P hP hr hc, rep_apply, rep_apply]
    show _ * _ + _ = _
    congr 1
    · congr 1
      exact lds_apply sc _ _ _ (Fin.forall_fin_two.mpr ⟨rfl, by show 128 * j + l.val = 128 * j + 1 * l.val; omega⟩)
    · exact lds_apply bi _ _ _ (Fin.forall_fin_two.mpr ⟨rfl, by show 128 * j + l.val = 128 * j + 1 * l.val; omega⟩)
  unfold tile
  refine (shapeCast_addUnit_apply ![14, 128] _ shapeCasts_S14x128_S1x14x128 (ix3 (n0 := 1) (n1 := 14) (n2 := 128) 0 a l)).trans ?_
  rw [show (fun b : Fin 2 => (ix3 (n0 := 1) (n1 := 14) (n2 := 128) 0 a l) b.succ) = ix2 (n0 := 14) (n1 := 128) a l from
    funext fun b => match b with | ⟨0, _⟩ => rfl | ⟨1, _⟩ => rfl]
  rw [mulf_apply]
  show _ * Ideal.logistic (pre X w9 sc bi i j hi hj (ix2 a l)) = _
  rw [e]
  rfl

/-- The pixel under tap `(e, d)` of output `(i, a)`: the image padded by one row and column of zeros. -/
def pixel (x : Vec Ideal S4x384x784 .f32) (b : Fin 4) (ch : Fin 384) (r q : Nat) : EReal :=
  if h : (1 ≤ r ∧ r ≤ 28) ∧ (1 ≤ q ∧ q ≤ 28) then x (ix3 (n0 := 4) (n1 := 384) (n2 := 784) b ch ⟨28 * (r - 1) + (q - 1), by omega⟩) else 0

theorem third_apply (x : Vec Ideal S4x384x784 .f32) (b : Nat) (hb : b < 4) (o : Nat) (ho : S784x384.Slices ![0, o] S784x128) (hoo : o + 128 ≤ 384)
    (p : Fin 784) (l : Fin 128) :
    third x b hb o ho (ix2 p l) = x (ix3 (n0 := 4) (n1 := 384) (n2 := 784) ⟨b, hb⟩ ⟨o + l.val, by omega⟩ p) := by
  unfold third
  rw [shapeCast_self]
  refine (extractStridedSlice_apply ![0, o] (image x b hb) ho (ix2 p l) (ix2 (n0 := 784) (n1 := 384) p ⟨o + l.val, by omega⟩)
    (Fin.forall_fin_two.mpr ⟨by show p.val = 0 + p.val; omega, rfl⟩)).trans ?_
  unfold image
  refine (transpose_apply [1, 0] _ transposes_S384x784_p1_0_S784x384 _ (ix2 (n0 := 384) (n1 := 784) ⟨o + l.val, by omega⟩ p)
    (Fin.forall_fin_two.mpr ⟨rfl, rfl⟩)).trans ?_
  refine (shapeCast_dropUnit_apply ![384, 784] _ shapeCasts_S1x384x784_S384x784 _).trans ?_
  exact lds_apply x _ _ _ (Fin.forall_fin_succ.mpr ⟨by show b = b + 1 * 0; omega, Fin.forall_fin_two.mpr
    ⟨by show o + l.val = 0 + 1 * (o + l.val); omega, by show p.val = 0 + 1 * p.val; omega⟩⟩)

theorem at2_padded (x : Vec Ideal S4x384x784 .f32) (b : Nat) (hb : b < 4) (o : Nat) (ho : S784x384.Slices ![0, o] S784x128) (hoo : o + 128 ≤ 384)
    (i a e d : Nat) (hi : i < 14) (ha : a < 14) (he : e < 3) (hd : d < 3) (h0 : i = 0 → e ≠ 0) (h1 : a = 0 → d ≠ 0) (l : Fin 128) :
    at2 (padded (third x b hb o ho)) (56 * i + 28 * e + d - 13 + 2 * a) l
      = pixel x ⟨b, hb⟩ ⟨o + l.val, by omega⟩ (2 * i + e) (2 * a + d) := by
  have hr : 1 ≤ 2 * i + e := by omega
  have hq : 1 ≤ 2 * a + d := by omega
  unfold at2 pixel
  rw [dif_pos (by omega), dif_pos ⟨⟨hr, by omega⟩, hq, by omega⟩]
  unfold padded
  rw [dif_pos (by show 16 ≤ 56 * i + 28 * e + d - 13 + 2 * a ∧ 56 * i + 28 * e + d - 13 + 2 * a < 800; omega)]
  refine Eq.trans ?_ (third_apply x b hb o ho hoo ⟨28 * (2 * i + e - 1) + (2 * a + d - 1), by omega⟩ l)
  congr 1
  exact Shape.idx_ext₂ (by show 56 * i + 28 * e + d - 13 + 2 * a - 16 = 28 * (2 * i + e - 1) + (2 * a + d - 1); omega) rfl

/-- The slab of a third of the channels. -/
theorem pick_padded (x : Vec Ideal S4x384x784 .f32) (b : Nat) (hb : b < 4) (j : Nat) (hj : j < 3) :
    ∃ ho : S784x384.Slices ![0, 128 * j] S784x128,
      pick (padded (third x b hb 0 slices_S784x384_o0_0_S784x128)) (padded (third x b hb 128 slices_S784x384_o0_128_S784x128))
        (padded (third x b hb 256 slices_S784x384_o0_256_S784x128)) j = padded (third x b hb (128 * j) ho) := by
  match j, hj with
  | 0, _ => exact ⟨slices_S784x384_o0_0_S784x128, rfl⟩
  | 1, _ => exact ⟨slices_S784x384_o0_128_S784x128, rfl⟩
  | 2, _ => exact ⟨slices_S784x384_o0_256_S784x128, rfl⟩

/-- The activation read at a row, a column and a channel. -/
theorem act_apply (x : Vec Ideal S4x384x784 .f32) (w9 : Vec Ideal S9x384 .f32) (sc bi : Vec Ideal S1x384 .f32) (b : Fin 4)
    (i : Fin 14) (a : Fin 16) (ch : Fin 384) :
    act x w9 sc bi b.val b.isLt (ix3 i a ch)
      = if a.val < 14 then silu (rows (fun e d => pixel x b ch (2 * i.val + e) (2 * a.val + d)) (wt w9 ch)
          * sc (ix2 (n0 := 1) (n1 := 384) 0 ch) + bi (ix2 (n0 := 1) (n1 := 384) 0 ch)) else 0 := by
  have hch := ch.isLt
  unfold act cell
  by_cases h : a.val < 14
  · rw [if_pos h, dif_pos (show ((ix3 i a ch) 1).val < 14 from h)]
    obtain ⟨ho, hpick⟩ := pick_padded x b.val b.isLt (ch.val / 128) (by omega)
    have hc : (⟨128 * (ch.val / 128) + ch.val % 128, by omega⟩ : Fin 384) = ch := Fin.ext (by show 128 * (ch.val / 128) + ch.val % 128 = ch.val; omega)
    have key := tile_apply (padded (third x b.val b.isLt (128 * (ch.val / 128)) ho)) w9 sc bi i.val (ch.val / 128) i.isLt (by omega)
      ⟨a.val, h⟩ ⟨ch.val % 128, Nat.mod_lt _ (by omega)⟩ (fun e d => pixel x b ch (2 * i.val + e) (2 * a.val + d))
      (fun e d he hd h0 h1 => (at2_padded x b.val b.isLt _ ho (by omega) i.val a.val e d i.isLt h he hd h0 h1 _).trans (by
        show pixel x b ⟨128 * (ch.val / 128) + ch.val % 128, _⟩ _ _ = _
        rw [hc]))
      (fun h0 d => by
        show pixel x b ch (2 * i.val + 0) (2 * a.val + d) = 0
        unfold pixel; rw [dif_neg (by omega)])
      (fun h1 e => by
        show pixel x b ch (2 * i.val + e) (2 * a.val + 0) = 0
        have h1' : a.val = 0 := h1
        unfold pixel; rw [dif_neg (by omega)])
    rw [← hpick] at key
    refine Eq.trans ?_ (key.trans ?_)
    · rfl
    · show silu (rows _ (wt w9 ⟨128 * (ch.val / 128) + ch.val % 128, _⟩) * sc (ix2 0 ⟨128 * (ch.val / 128) + ch.val % 128, _⟩)
        + bi (ix2 0 ⟨128 * (ch.val / 128) + ch.val % 128, _⟩)) = _
      rw [hc]
  · rw [if_neg h, dif_neg (show ¬ ((ix3 i a ch) 1).val < 14 from h)]
    exact zero_ideal

end Cert.KernelIdeal.Body
-- ==== Proof.Math.Sums.lean ====
/- A sum over 224 places as fourteen rows of fourteen, when the last two of each sixteen are zero. -/
module

public import Mathlib.Data.EReal.Operations
public import Mathlib.Algebra.BigOperators.Fin
public import Mathlib.Logic.Equiv.Fin.Basic

@[expose] public section

namespace Cert.Math

theorem sum_rows (f : Fin 224 → EReal) :
    ∑ k, f k = ∑ i : Fin 14, ∑ a : Fin 16, f ⟨16 * i.val + a.val, by omega⟩ := by
  rw [← Equiv.sum_comp (finProdFinEquiv (m := 14) (n := 16)) f, Fintype.sum_prod_type]
  refine Finset.sum_congr rfl fun i _ => Finset.sum_congr rfl fun a _ => congrArg f (Fin.ext ?_)
  show a.val + 16 * i.val = 16 * i.val + a.val
  omega

theorem sum_trim (g : Fin 16 → EReal) (h : ∀ a : Fin 16, 14 ≤ a.val → g a = 0) :
    ∑ a, g a = ∑ a : Fin 14, g ⟨a.val, by omega⟩ := by
  rw [Fin.sum_univ_castSucc, Fin.sum_univ_castSucc, h (Fin.last 15) (by decide), h (Fin.castSucc (Fin.last 14)) (by decide), add_zero, add_zero]
  rfl

end Cert.Math
-- ==== Proof.Body.Pool.lean ====
/- The pooled row at the ideal values: the mean over the image of the gated channel products. -/
module

public import proofs.«01_k».proof.Proof.Body.Conv
public import proofs.«01_k».proof.Proof.Math.Sums
public import Idealize.ShloMosaic.Lib.MatmulPlain

@[expose] public section

noncomputable section

namespace Cert.KernelIdeal.Body

open Idealize.ShloMosaic Idealize.ShloMosaic.ValueIdx Cert.KernelIdeal Cert.KernelIdeal.Gen Cert.Proof.Rules Cert.Math

theorem mixed_apply (A : Vec Ideal S14x16x384 .f32) (pw : Vec Ideal S384x24 .f32) (k : Fin 224) (r : Fin 24) :
    mixed A pw (ix2 k r) = ∑ c : Fin 384, A (ix3 (n0 := 14) (n1 := 16) (n2 := 384) ⟨k.val / 16, by omega⟩ ⟨k.val % 16, by omega⟩ c)
      * pw (ix2 (n0 := 384) (n1 := 24) c r) := by
  unfold mixed
  rw [show dot_S224x384_S384x24_S224x24_1_0_0_1_n_n = DotDims.plain 224 384 24 from rfl]
  simp only [matmul]
  refine (Ideal.matmul_plain_apply none _ _ _ k r).trans ?_
  rw [show constant (F := Ideal) (⟨2, ![224, 24]⟩ : Shape) .f32 0x00000000#32 (ix2 k r) = (0 : EReal) from Ideal.ofBits_zero_f32, zero_add]
  refine Finset.sum_congr rfl fun c _ => ?_
  congr 1
  · refine (shapeCast_apply _ shapeCasts_S14x16x384_S224x384 (ix2 k c)
      (ix3 (n0 := 14) (n1 := 16) (n2 := 384) ⟨k.val / 16, by omega⟩ ⟨k.val % 16, by omega⟩ c) ?_).trans ?_
    · rw [Shape.rowMajor_val_three, Shape.rowMajor_val_two]
      show (k.val / 16 * 16 + k.val % 16) * 384 + c.val = k.val * 384 + c.val
      have : k.val / 16 * 16 + k.val % 16 = k.val := by omega
      rw [this]
    · exact lds_apply A _ _ _ (Fin.forall_fin_succ.mpr ⟨by show k.val / 16 = 0 + 1 * (k.val / 16); omega, Fin.forall_fin_two.mpr
        ⟨by show k.val % 16 = 0 + 1 * (k.val % 16); omega, by show c.val = 0 + 1 * c.val; omega⟩⟩)
  · refine (shapeCast_apply _ shapeCasts_S384x24_S384x24 (ix2 c r) (ix2 c r) rfl).trans ?_
    exact lds_apply pw _ _ _ (Fin.forall_fin_two.mpr ⟨by show c.val = 0 + 1 * c.val; omega, by show r.val = 0 + 1 * r.val; omega⟩)

theorem pool_apply (A : Vec Ideal S14x16x384 .f32) (pw : Vec Ideal S384x24 .f32) (r : Fin 24) :
    pool A pw (ix3 (n0 := 1) (n1 := 1) (n2 := 24) 0 0 r) = (∑ k : Fin 224, silu (mixed A pw (ix2 k r))) * ((1 / 196 : ℝ) : EReal) := by
  unfold pool
  refine (shapeCast_apply _ shapeCasts_S24_S1x1x24 _ (ix1 (n := 24) r) ?_).trans ?_
  · rw [Shape.rowMajor_val_one, Shape.rowMajor_val_three]
    show r.val = (0 * 1 + 0) * 24 + r.val
    omega
  rw [mulf_apply]
  show (multiReduction .add [0] S24 (mulf (mixed A pw) (logistic (mixed A pw))) 0x00000000#32 reduces_S224x24_S24
    (.inl rfl) rfl (ix1 (n := 24) r)) * (((1 / 196 : ℝ) : EReal)) = _
  congr 1
  refine (Ideal.multiReduction_add_single _ _ reduces_S224x24_S24 _ _ _).trans ?_
  refine Finset.sum_congr rfl fun k _ => ?_
  have hl : reduces_S224x24_S24.lift (ix1 (n := 24) r) k = ix2 (n0 := 224) (n1 := 24) k r :=
    funext fun a => Fin.ext (match a with | ⟨0, _⟩ => rfl | ⟨1, _⟩ => rfl)
  rw [hl]
  rfl

theorem silu_zero : silu 0 = 0 := zero_mul _

/-- The activation at a row, a column and a channel, as one number. -/
def gated (x : Vec Ideal S4x384x784 .f32) (w9 : Vec Ideal S9x384 .f32) (sc bi : Vec Ideal S1x384 .f32) (b : Fin 4) (ch : Fin 384) (i a : Nat) : EReal :=
  silu (rows (fun e d => pixel x b ch (2 * i + e) (2 * a + d)) (wt w9 ch)
    * sc (ix2 (n0 := 1) (n1 := 384) 0 ch) + bi (ix2 (n0 := 1) (n1 := 384) 0 ch))

/-- The pooled block read at an image and a channel. -/
theorem block_apply (x : Vec Ideal S4x384x784 .f32) (w9 : Vec Ideal S9x384 .f32) (sc bi : Vec Ideal S1x384 .f32) (pw : Vec Ideal S384x24 .f32)
    (b : Fin 4) (z : Fin 1) (r : Fin 24) :
    block x w9 sc bi pw (ix3 b z r) = (∑ i : Fin 14, ∑ a : Fin 14,
      silu (∑ c : Fin 384, gated x w9 sc bi b c i.val a.val * pw (ix2 (n0 := 384) (n1 := 24) c r))) * ((1 / 196 : ℝ) : EReal) := by
  unfold block
  refine (pool_apply _ pw r).trans ?_
  congr 1
  rw [sum_rows]
  refine Finset.sum_congr rfl fun i _ => ?_
  have hcell : ∀ a : Fin 16, mixed (act x w9 sc bi b.val b.isLt) pw (ix2 (n0 := 224) (n1 := 24) ⟨16 * i.val + a.val, by omega⟩ r)
      = ∑ c : Fin 384, (if a.val < 14 then gated x w9 sc bi b c i.val a.val else 0) * pw (ix2 (n0 := 384) (n1 := 24) c r) := by
    intro a
    rw [mixed_apply]
    refine Finset.sum_congr rfl fun c _ => ?_
    congr 1
    rw [show (⟨(16 * i.val + a.val) / 16, by omega⟩ : Fin 14) = i from Fin.ext (by show (16 * i.val + a.val) / 16 = i.val; omega),
      show (⟨(16 * i.val + a.val) % 16, by omega⟩ : Fin 16) = a from Fin.ext (by show (16 * i.val + a.val) % 16 = a.val; omega)]
    exact act_apply x w9 sc bi b i a c
  rw [sum_trim]
  · refine Finset.sum_congr rfl fun a _ => ?_
    show silu (mixed (act x w9 sc bi b.val b.isLt) pw (ix2 (n0 := 224) (n1 := 24) ⟨16 * i.val + (⟨a.val, by omega⟩ : Fin 16).val, _⟩ r)) = _
    rw [hcell]
    congr 1
    exact Finset.sum_congr rfl fun c _ => by rw [if_pos a.isLt]
  · intro a ha
    show silu (mixed (act x w9 sc bi b.val b.isLt) pw (ix2 (n0 := 224) (n1 := 24) ⟨16 * i.val + a.val, _⟩ r)) = 0
    rw [hcell, Finset.sum_eq_zero, silu_zero]
    intro c _
    rw [if_neg (by omega), zero_mul]

end Cert.KernelIdeal.Body
-- ==== Proof.Body.Steps.lean ====
/- The convolution body's buffers as one assertion, and a rule per buffer and operation. -/
module

public import proofs.«01_k».proof.Proof.Body.Tile
public import Idealize.ShloMosaic.Lib.Pipeline.RegionsLoop

@[expose] public section

noncomputable section

namespace Cert.KernelIdeal.Body

open Idealize.ShloMosaic Idealize.ShloMosaic.TcCoe Cert.KernelIdeal Cert.KernelIdeal.Gen Cert.Proof.Rules
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (arg1 : Memref sig .tc .vmem S4x384x784 .f32) (arg2 : Memref sig .tc .vmem S384x384 .f32)
  (arg3 : Memref sig .tc .vmem S9x384 .f32) (arg4 : Memref sig .tc .vmem S1x384 .f32) (arg5 : Memref sig .tc .vmem S1x384 .f32)
  (arg6 : Memref sig .tc .vmem S384x24 .f32) (arg7 : Memref sig .tc .vmem S4x1x24 .f32) (arg8 arg9 arg10 : Memref sig .tc .vmem S816x128 .f32)
  (arg11 : Memref sig .tc .vmem S14x16x384 .f32)
  (x0 : Vec F S4x384x784 .f32) (x1 : Vec F S384x384 .f32) (x2 : Vec F S9x384 .f32) (x3 x4 : Vec F S1x384 .f32) (x5 : Vec F S384x24 .f32)
  (R : sProp (MT nD τ sig Unit (Elt F) ℕ (UR sig nD τ) ℕ)) (O : Vec F S4x1x24 .f32) (X0 X1 X2 : Vec F S816x128 .f32) (A : Vec F S14x16x384 .f32)

/-- The body's eleven buffers at their contents, and whatever else is held. -/
def St : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare O ∗ owns (c : Thread nD τ) arg8 fullShare X0 ∗ owns (c : Thread nD τ) arg9 fullShare X1
    ∗ owns (c : Thread nD τ) arg10 fullShare X2 ∗ owns (c : Thread nD τ) arg11 fullShare A ∗ R)

local notation:max "ST" => St c arg1 arg2 arg3 arg4 arg5 arg6 arg7 arg8 arg9 arg10 arg11 x0 x1 x2 x3 x4 x5 R

variable {c arg1 arg2 arg3 arg4 arg5 arg6 arg7 arg8 arg9 arg10 arg11 x0 x1 x2 x3 x4 x5 R O X0 X1 X2 A}
variable {α : Type} {E : Set ℕ} {Q : α → sProp (MT nD τ sig Unit (Elt F) ℕ (UR sig nD τ) ℕ)}

theorem split1 : ST O X0 X1 X2 A ⊢ iprop(owns (c : Thread nD τ) arg1 fullShare x0 ∗ iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg10 fullShare X2 ∗ owns (c : Thread nD τ) arg11 fullShare A ∗ R)) := by
  unfold St
  iintro ⟨H1, H2, H3, H4, H5, H6, H7, H8, H9, H10, H11, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem join1 : iprop(owns (c : Thread nD τ) arg1 fullShare x0 ∗ iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg10 fullShare X2 ∗ owns (c : Thread nD τ) arg11 fullShare A ∗ R)) ⊢ ST O X0 X1 X2 A := by
  unfold St
  iintro ⟨H1, H2, H3, H4, H5, H6, H7, H8, H9, H10, H11, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem split2 : ST O X0 X1 X2 A ⊢ iprop(owns (c : Thread nD τ) arg2 fullShare x1 ∗ iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg10 fullShare X2 ∗ owns (c : Thread nD τ) arg11 fullShare A ∗ R)) := by
  unfold St
  iintro ⟨H1, H2, H3, H4, H5, H6, H7, H8, H9, H10, H11, HR⟩
  isplitl [H2]; · iexact H2
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem join2 : iprop(owns (c : Thread nD τ) arg2 fullShare x1 ∗ iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg10 fullShare X2 ∗ owns (c : Thread nD τ) arg11 fullShare A ∗ R)) ⊢ ST O X0 X1 X2 A := by
  unfold St
  iintro ⟨H2, H1, H3, H4, H5, H6, H7, H8, H9, H10, H11, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem split3 : ST O X0 X1 X2 A ⊢ iprop(owns (c : Thread nD τ) arg3 fullShare x2 ∗ iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg10 fullShare X2 ∗ owns (c : Thread nD τ) arg11 fullShare A ∗ R)) := by
  unfold St
  iintro ⟨H1, H2, H3, H4, H5, H6, H7, H8, H9, H10, H11, HR⟩
  isplitl [H3]; · iexact H3
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem join3 : iprop(owns (c : Thread nD τ) arg3 fullShare x2 ∗ iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg10 fullShare X2 ∗ owns (c : Thread nD τ) arg11 fullShare A ∗ R)) ⊢ ST O X0 X1 X2 A := by
  unfold St
  iintro ⟨H3, H1, H2, H4, H5, H6, H7, H8, H9, H10, H11, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem split4 : ST O X0 X1 X2 A ⊢ iprop(owns (c : Thread nD τ) arg4 fullShare x3 ∗ iprop(owns (c : Thread nD τ) arg1 fullShare x0 ∗ owns (c : Thread nD τ) arg2 fullShare x1 ∗ owns (c : Thread nD τ) arg3 fullShare x2 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg10 fullShare X2 ∗ owns (c : Thread nD τ) arg11 fullShare A ∗ R)) := by
  unfold St
  iintro ⟨H1, H2, H3, H4, H5, H6, H7, H8, H9, H10, H11, HR⟩
  isplitl [H4]; · iexact H4
  isplitl [H1]; · iexact H1
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem join4 : iprop(owns (c : Thread nD τ) arg4 fullShare x3 ∗ iprop(owns (c : Thread nD τ) arg1 fullShare x0 ∗ owns (c : Thread nD τ) arg2 fullShare x1 ∗ owns (c : Thread nD τ) arg3 fullShare x2 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg10 fullShare X2 ∗ owns (c : Thread nD τ) arg11 fullShare A ∗ R)) ⊢ ST O X0 X1 X2 A := by
  unfold St
  iintro ⟨H4, H1, H2, H3, H5, H6, H7, H8, H9, H10, H11, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem split5 : ST O X0 X1 X2 A ⊢ iprop(owns (c : Thread nD τ) arg5 fullShare x4 ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg10 fullShare X2 ∗ owns (c : Thread nD τ) arg11 fullShare A ∗ R)) := by
  unfold St
  iintro ⟨H1, H2, H3, H4, H5, H6, H7, H8, H9, H10, H11, HR⟩
  isplitl [H5]; · iexact H5
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  iexact HR

theorem join5 : iprop(owns (c : Thread nD τ) arg5 fullShare x4 ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg10 fullShare X2 ∗ owns (c : Thread nD τ) arg11 fullShare A ∗ R)) ⊢ ST O X0 X1 X2 A := by
  unfold St
  iintro ⟨H5, H1, H2, H3, H4, H6, H7, H8, H9, H10, H11, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem split6 : ST O X0 X1 X2 A ⊢ iprop(owns (c : Thread nD τ) arg6 fullShare x5 ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare O ∗ owns (c : Thread nD τ) arg8 fullShare X0 ∗ owns (c : Thread nD τ) arg9 fullShare X1 ∗ owns (c : Thread nD τ) arg10 fullShare X2 ∗ owns (c : Thread nD τ) arg11 fullShare A ∗ R)) := by
  unfold St
  iintro ⟨H1, H2, H3, H4, H5, H6, H7, H8, H9, H10, H11, HR⟩
  isplitl [H6]; · iexact H6
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  iexact HR

theorem join6 : iprop(owns (c : Thread nD τ) arg6 fullShare x5 ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare O ∗ owns (c : Thread nD τ) arg8 fullShare X0 ∗ owns (c : Thread nD τ) arg9 fullShare X1 ∗ owns (c : Thread nD τ) arg10 fullShare X2 ∗ owns (c : Thread nD τ) arg11 fullShare A ∗ R)) ⊢ ST O X0 X1 X2 A := by
  unfold St
  iintro ⟨H6, H1, H2, H3, H4, H5, H7, H8, H9, H10, H11, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem split7 : ST O X0 X1 X2 A ⊢ iprop(owns (c : Thread nD τ) arg7 fullShare O ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare X0 ∗ owns (c : Thread nD τ) arg9 fullShare X1 ∗ owns (c : Thread nD τ) arg10 fullShare X2 ∗ owns (c : Thread nD τ) arg11 fullShare A ∗ R)) := by
  unfold St
  iintro ⟨H1, H2, H3, H4, H5, H6, H7, H8, H9, H10, H11, HR⟩
  isplitl [H7]; · iexact H7
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iexact HR

theorem join7 : iprop(owns (c : Thread nD τ) arg7 fullShare O ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare X0 ∗ owns (c : Thread nD τ) arg9 fullShare X1 ∗ owns (c : Thread nD τ) arg10 fullShare X2 ∗ owns (c : Thread nD τ) arg11 fullShare A ∗ R)) ⊢ ST O X0 X1 X2 A := by
  unfold St
  iintro ⟨H7, H1, H2, H3, H4, H5, H6, H8, H9, H10, H11, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem split8 : ST O X0 X1 X2 A ⊢ iprop(owns (c : Thread nD τ) arg8 fullShare X0 ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg9 fullShare X1 ∗ owns (c : Thread nD τ) arg10 fullShare X2 ∗ owns (c : Thread nD τ) arg11 fullShare A ∗ R)) := by
  unfold St
  iintro ⟨H1, H2, H3, H4, H5, H6, H7, H8, H9, H10, H11, HR⟩
  isplitl [H8]; · iexact H8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  iexact HR

theorem join8 : iprop(owns (c : Thread nD τ) arg8 fullShare X0 ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg9 fullShare X1 ∗ owns (c : Thread nD τ) arg10 fullShare X2 ∗ owns (c : Thread nD τ) arg11 fullShare A ∗ R)) ⊢ ST O X0 X1 X2 A := by
  unfold St
  iintro ⟨H8, H1, H2, H3, H4, H5, H6, H7, H9, H10, H11, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem split9 : ST O X0 X1 X2 A ⊢ iprop(owns (c : Thread nD τ) arg9 fullShare X1 ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg10 fullShare X2 ∗ owns (c : Thread nD τ) arg11 fullShare A ∗ R)) := by
  unfold St
  iintro ⟨H1, H2, H3, H4, H5, H6, H7, H8, H9, H10, H11, HR⟩
  isplitl [H9]; · iexact H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  iexact HR

theorem join9 : iprop(owns (c : Thread nD τ) arg9 fullShare X1 ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg10 fullShare X2 ∗ owns (c : Thread nD τ) arg11 fullShare A ∗ R)) ⊢ ST O X0 X1 X2 A := by
  unfold St
  iintro ⟨H9, H1, H2, H3, H4, H5, H6, H7, H8, H10, H11, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem split10 : ST O X0 X1 X2 A ⊢ iprop(owns (c : Thread nD τ) arg10 fullShare X2 ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg11 fullShare A ∗ R)) := by
  unfold St
  iintro ⟨H1, H2, H3, H4, H5, H6, H7, H8, H9, H10, H11, HR⟩
  isplitl [H10]; · iexact H10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  iexact HR

theorem join10 : iprop(owns (c : Thread nD τ) arg10 fullShare X2 ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg11 fullShare A ∗ R)) ⊢ ST O X0 X1 X2 A := by
  unfold St
  iintro ⟨H10, H1, H2, H3, H4, H5, H6, H7, H8, H9, H11, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

theorem split11 : ST O X0 X1 X2 A ⊢ iprop(owns (c : Thread nD τ) arg11 fullShare A ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg10 fullShare X2 ∗ R)) := by
  unfold St
  iintro ⟨H1, H2, H3, H4, H5, H6, H7, H8, H9, H10, H11, HR⟩
  isplitl [H11]; · iexact H11
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HR

theorem join11 : iprop(owns (c : Thread nD τ) arg11 fullShare A ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare O ∗ owns (c : Thread nD τ) arg8 fullShare X0 ∗ owns (c : Thread nD τ) arg9 fullShare X1 ∗ owns (c : Thread nD τ) arg10 fullShare X2 ∗ R)) ⊢ ST O X0 X1 X2 A := by
  unfold St
  iintro ⟨H11, H1, H2, H3, H4, H5, H6, H7, H8, H9, H10, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

/-- The store of a pooled row ends a batch: what the scratch buffers hold no longer matters. -/
theorem row7 {b : ℕ} {hb : b < 4} {g : Junk F} {r : Rect S4x1x24} {w : r.shape.Idx → F .f32} {hx : (arg7.access r).Stores Finset.univ}
    {hm : (Finset.univ : Finset r.shape.Idx) = Finset.univ ∨ ∀ a, r.stride a = 1} {k : PUnit → Prog (TpuEff nD τ sig (Elt F) Λ₀ .tc) α}
    (h : r.overlay O w = putRow x0 x2 x3 x4 x5 b hb g O)
    (hk : ∀ X0 X1 X2 A, ST (putRow x0 x2 x3 x4 x5 b hb g O) X0 X1 X2 A ⊢ wp frame (wpE (defs₀ (F := F)) Variants.none c none) E (k ⟨⟩) Q) :
    ST O X0 X1 X2 A ⊢ wp frame (wpE (defs₀ (F := F)) Variants.none c none) E (Prog.lift (.store arg7 r w Finset.univ hx hm) >>= k) Q :=
  store_step Variants.none (c : Thread nD τ) split7 join7 (by rw [h]; exact hk X0 X1 X2 A)

theorem store8 {r : Rect S816x128} {w : r.shape.Idx → F .f32} {hx : (arg8.access r).Stores Finset.univ}
    {hm : (Finset.univ : Finset r.shape.Idx) = Finset.univ ∨ ∀ a, r.stride a = 1} {k : PUnit → Prog (TpuEff nD τ sig (Elt F) Λ₀ .tc) α}
    (hk : ST O (r.overlay X0 w) X1 X2 A ⊢ wp frame (wpE (defs₀ (F := F)) Variants.none c none) E (k ⟨⟩) Q) :
    ST O X0 X1 X2 A ⊢ wp frame (wpE (defs₀ (F := F)) Variants.none c none) E (Prog.lift (.store arg8 r w Finset.univ hx hm) >>= k) Q :=
  store_step Variants.none (c : Thread nD τ) split8 join8 hk

theorem store9 {r : Rect S816x128} {w : r.shape.Idx → F .f32} {hx : (arg9.access r).Stores Finset.univ}
    {hm : (Finset.univ : Finset r.shape.Idx) = Finset.univ ∨ ∀ a, r.stride a = 1} {k : PUnit → Prog (TpuEff nD τ sig (Elt F) Λ₀ .tc) α}
    (hk : ST O X0 (r.overlay X1 w) X2 A ⊢ wp frame (wpE (defs₀ (F := F)) Variants.none c none) E (k ⟨⟩) Q) :
    ST O X0 X1 X2 A ⊢ wp frame (wpE (defs₀ (F := F)) Variants.none c none) E (Prog.lift (.store arg9 r w Finset.univ hx hm) >>= k) Q :=
  store_step Variants.none (c : Thread nD τ) split9 join9 hk

theorem store10 {r : Rect S816x128} {w : r.shape.Idx → F .f32} {hx : (arg10.access r).Stores Finset.univ}
    {hm : (Finset.univ : Finset r.shape.Idx) = Finset.univ ∨ ∀ a, r.stride a = 1} {k : PUnit → Prog (TpuEff nD τ sig (Elt F) Λ₀ .tc) α}
    (hk : ST O X0 X1 (r.overlay X2 w) A ⊢ wp frame (wpE (defs₀ (F := F)) Variants.none c none) E (k ⟨⟩) Q) :
    ST O X0 X1 X2 A ⊢ wp frame (wpE (defs₀ (F := F)) Variants.none c none) E (Prog.lift (.store arg10 r w Finset.univ hx hm) >>= k) Q :=
  store_step Variants.none (c : Thread nD τ) split10 join10 hk

theorem store11 {r : Rect S14x16x384} {w : r.shape.Idx → F .f32} {hx : (arg11.access r).Stores Finset.univ}
    {hm : (Finset.univ : Finset r.shape.Idx) = Finset.univ ∨ ∀ a, r.stride a = 1} {k : PUnit → Prog (TpuEff nD τ sig (Elt F) Λ₀ .tc) α}
    (hk : ST O X0 X1 X2 (r.overlay A w) ⊢ wp frame (wpE (defs₀ (F := F)) Variants.none c none) E (k ⟨⟩) Q) :
    ST O X0 X1 X2 A ⊢ wp frame (wpE (defs₀ (F := F)) Variants.none c none) E (Prog.lift (.store arg11 r w Finset.univ hx hm) >>= k) Q :=
  store_step Variants.none (c : Thread nD τ) split11 join11 hk

/-- The third store of a slab closes it. -/
theorem slab8 {v : FVec F S784x128 .f32} {w w' : FVec F S16x128 .f32} (hw : w = zpad) (hw' : w' = zpad)
    {hx : (arg8.access (Rect.unit (s := S816x128) ![800, 0] S16x128.size inb_S816x128_S16x128_800_0)).Stores Finset.univ}
    {hm : (Finset.univ : Finset (Rect.unit (s := S816x128) ![800, 0] S16x128.size inb_S816x128_S16x128_800_0).shape.Idx) = Finset.univ
      ∨ ∀ a, (Rect.unit (s := S816x128) ![800, 0] S16x128.size inb_S816x128_S16x128_800_0).stride a = 1}
    {k : PUnit → Prog (TpuEff nD τ sig (Elt F) Λ₀ .tc) α}
    (hk : ST O (slab v X0) X1 X2 A ⊢ wp frame (wpE (defs₀ (F := F)) Variants.none c none) E (k ⟨⟩) Q) :
    ST O ((Rect.unit (s := S816x128) ![16, 0] S784x128.size inb_S816x128_S784x128_16_0).overlay ((Rect.unit (s := S816x128) ![0, 0] S16x128.size inb_S816x128_S16x128_0_0).overlay X0 w) v) X1 X2 A ⊢ wp frame (wpE (defs₀ (F := F)) Variants.none c none) E
      (Prog.lift (.store arg8 (Rect.unit (s := S816x128) ![800, 0] S16x128.size inb_S816x128_S16x128_800_0) w' Finset.univ hx hm) >>= k) Q := by
  subst hw; subst hw'
  exact store8 hk

/-- The third store of a slab closes it. -/
theorem slab9 {v : FVec F S784x128 .f32} {w w' : FVec F S16x128 .f32} (hw : w = zpad) (hw' : w' = zpad)
    {hx : (arg9.access (Rect.unit (s := S816x128) ![800, 0] S16x128.size inb_S816x128_S16x128_800_0)).Stores Finset.univ}
    {hm : (Finset.univ : Finset (Rect.unit (s := S816x128) ![800, 0] S16x128.size inb_S816x128_S16x128_800_0).shape.Idx) = Finset.univ
      ∨ ∀ a, (Rect.unit (s := S816x128) ![800, 0] S16x128.size inb_S816x128_S16x128_800_0).stride a = 1}
    {k : PUnit → Prog (TpuEff nD τ sig (Elt F) Λ₀ .tc) α}
    (hk : ST O X0 (slab v X1) X2 A ⊢ wp frame (wpE (defs₀ (F := F)) Variants.none c none) E (k ⟨⟩) Q) :
    ST O X0 ((Rect.unit (s := S816x128) ![16, 0] S784x128.size inb_S816x128_S784x128_16_0).overlay ((Rect.unit (s := S816x128) ![0, 0] S16x128.size inb_S816x128_S16x128_0_0).overlay X1 w) v) X2 A ⊢ wp frame (wpE (defs₀ (F := F)) Variants.none c none) E
      (Prog.lift (.store arg9 (Rect.unit (s := S816x128) ![800, 0] S16x128.size inb_S816x128_S16x128_800_0) w' Finset.univ hx hm) >>= k) Q := by
  subst hw; subst hw'
  exact store9 hk

/-- The third store of a slab closes it. -/
theorem slab10 {v : FVec F S784x128 .f32} {w w' : FVec F S16x128 .f32} (hw : w = zpad) (hw' : w' = zpad)
    {hx : (arg10.access (Rect.unit (s := S816x128) ![800, 0] S16x128.size inb_S816x128_S16x128_800_0)).Stores Finset.univ}
    {hm : (Finset.univ : Finset (Rect.unit (s := S816x128) ![800, 0] S16x128.size inb_S816x128_S16x128_800_0).shape.Idx) = Finset.univ
      ∨ ∀ a, (Rect.unit (s := S816x128) ![800, 0] S16x128.size inb_S816x128_S16x128_800_0).stride a = 1}
    {k : PUnit → Prog (TpuEff nD τ sig (Elt F) Λ₀ .tc) α}
    (hk : ST O X0 X1 (slab v X2) A ⊢ wp frame (wpE (defs₀ (F := F)) Variants.none c none) E (k ⟨⟩) Q) :
    ST O X0 X1 ((Rect.unit (s := S816x128) ![16, 0] S784x128.size inb_S816x128_S784x128_16_0).overlay ((Rect.unit (s := S816x128) ![0, 0] S16x128.size inb_S816x128_S16x128_0_0).overlay X2 w) v) A ⊢ wp frame (wpE (defs₀ (F := F)) Variants.none c none) E
      (Prog.lift (.store arg10 (Rect.unit (s := S816x128) ![800, 0] S16x128.size inb_S816x128_S16x128_800_0) w' Finset.univ hx hm) >>= k) Q := by
  subst hw; subst hw'
  exact store10 hk

/-- A store into the activation is the next one of the closed form. -/
theorem act11 {n : ℕ} {r : Rect S14x16x384} {w : r.shape.Idx → F .f32} {hx : (arg11.access r).Stores Finset.univ}
    {hm : (Finset.univ : Finset r.shape.Idx) = Finset.univ ∨ ∀ a, r.stride a = 1} {k : PUnit → Prog (TpuEff nD τ sig (Elt F) Λ₀ .tc) α}
    (h : r.overlay (actSt x2 x3 x4 X0 X1 X2 A n) w = actStep x2 x3 x4 X0 X1 X2 n (actSt x2 x3 x4 X0 X1 X2 A n))
    (hk : ST O X0 X1 X2 (actSt x2 x3 x4 X0 X1 X2 A (n + 1)) ⊢ wp frame (wpE (defs₀ (F := F)) Variants.none c none) E (k ⟨⟩) Q) :
    ST O X0 X1 X2 (actSt x2 x3 x4 X0 X1 X2 A n) ⊢ wp frame (wpE (defs₀ (F := F)) Variants.none c none) E
      (Prog.lift (.store arg11 r w Finset.univ hx hm) >>= k) Q :=
  store11 (by rw [h]; exact hk)

/-- The first store of a batch into the activation. -/
theorem act11_first {r : Rect S14x16x384} {w : r.shape.Idx → F .f32} {hx : (arg11.access r).Stores Finset.univ}
    {hm : (Finset.univ : Finset r.shape.Idx) = Finset.univ ∨ ∀ a, r.stride a = 1} {k : PUnit → Prog (TpuEff nD τ sig (Elt F) Λ₀ .tc) α}
    (h : r.overlay A w = actStep x2 x3 x4 X0 X1 X2 0 A)
    (hk : ST O X0 X1 X2 (actSt x2 x3 x4 X0 X1 X2 A 1) ⊢ wp frame (wpE (defs₀ (F := F)) Variants.none c none) E (k ⟨⟩) Q) :
    ST O X0 X1 X2 A ⊢ wp frame (wpE (defs₀ (F := F)) Variants.none c none) E (Prog.lift (.store arg11 r w Finset.univ hx hm) >>= k) Q :=
  store11 (by rw [h]; exact hk)

theorem assoc {β γ : Type} {p : Prog (TpuEff nD τ sig (Elt F) Λ₀ .tc) β} {f : β → Prog (TpuEff nD τ sig (Elt F) Λ₀ .tc) γ}
    {k : γ → Prog (TpuEff nD τ sig (Elt F) Λ₀ .tc) α}
    (hk : ST O X0 X1 X2 A ⊢ wp frame (wpE (defs₀ (F := F)) Variants.none c none) E (p >>= fun a => f a >>= k) Q) :
    ST O X0 X1 X2 A ⊢ wp frame (wpE (defs₀ (F := F)) Variants.none c none) E (p >>= f >>= k) Q :=
  assoc_step Variants.none (c : Thread nD τ) hk

theorem ret {β : Type} {a : β} {k : β → Prog (TpuEff nD τ sig (Elt F) Λ₀ .tc) α}
    (hk : ST O X0 X1 X2 A ⊢ wp frame (wpE (defs₀ (F := F)) Variants.none c none) E (k a) Q) :
    ST O X0 X1 X2 A ⊢ wp frame (wpE (defs₀ (F := F)) Variants.none c none) E (pure a >>= k) Q := hk

variable (c) in
/-- One of the buffers, held at contents `v` beside something else. -/
def Holds {s : Shape} (P : sProp (MT nD τ sig Unit (Elt F) ℕ (UR sig nD τ) ℕ)) (m : Memref sig .tc .vmem s .f32) (v : Vec F s .f32) : Prop :=
  ∃ R, (P ⊢ iprop(owns (c : Thread nD τ) m fullShare v ∗ R)) ∧ (iprop(owns (c : Thread nD τ) m fullShare v ∗ R) ⊢ P)

/-- A load of any of the buffers. -/
theorem load_any {s : Shape} {P : sProp (MT nD τ sig Unit (Elt F) ℕ (UR sig nD τ) ℕ)} {m : Memref sig .tc .vmem s .f32} {v : Vec F s .f32}
    {r : LoadRect s} {hl : m.view.LoadsAt r} {k : (r.shape.Idx → F .f32) → Prog (TpuEff nD τ sig (Elt F) Λ₀ .tc) α}
    (h : Holds c P m v) (hk : P ⊢ wp frame (wpE (defs₀ (F := F)) Variants.none c none) E (k (lds v r)) Q) :
    P ⊢ wp frame (wpE (defs₀ (F := F)) Variants.none c none) E (Prog.lift (.load m r hl) >>= k) Q :=
  let ⟨_, h, h'⟩ := h
  load_step Variants.none (c : Thread nD τ) h h' hk

theorem hold1 : Holds c (ST O X0 X1 X2 A) arg1 x0 := ⟨_, split1, join1⟩
theorem hold2 : Holds c (ST O X0 X1 X2 A) arg2 x1 := ⟨_, split2, join2⟩
theorem hold3 : Holds c (ST O X0 X1 X2 A) arg3 x2 := ⟨_, split3, join3⟩
theorem hold4 : Holds c (ST O X0 X1 X2 A) arg4 x3 := ⟨_, split4, join4⟩
theorem hold5 : Holds c (ST O X0 X1 X2 A) arg5 x4 := ⟨_, split5, join5⟩
theorem hold6 : Holds c (ST O X0 X1 X2 A) arg6 x5 := ⟨_, split6, join6⟩
theorem hold7 : Holds c (ST O X0 X1 X2 A) arg7 O := ⟨_, split7, join7⟩
theorem hold8 : Holds c (ST O X0 X1 X2 A) arg8 X0 := ⟨_, split8, join8⟩
theorem hold9 : Holds c (ST O X0 X1 X2 A) arg9 X1 := ⟨_, split9, join9⟩
theorem hold10 : Holds c (ST O X0 X1 X2 A) arg10 X2 := ⟨_, split10, join10⟩
theorem hold11 : Holds c (ST O X0 X1 X2 A) arg11 A := ⟨_, split11, join11⟩

end Cert.KernelIdeal.Body
-- ==== Proof.Body.Walk.lean ====
/- The convolution body, one operation after another, from its buffers at anything to the output block in closed form. -/
module

public import proofs.«01_k».proof.Proof.Body.Steps
public import proofs.«01_k».proof.Proof.Gen.KernelIdeal

@[expose] public section
noncomputable section
namespace Cert.KernelIdeal.Body

open Idealize.ShloMosaic Idealize.ShloMosaic.TcCoe Cert.KernelIdeal Cert.KernelIdeal.Gen Cert.Proof.Rules
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

set_option maxRecDepth 65536
attribute [local irreducible] wp St Prog.bind Prog.lift
set_option maxHeartbeats 0 in
theorem body (c : Dev nD) (i : grid0.Coords) (arg1 : Memref sig .tc .vmem S4x384x784 .f32) (harg1 : arg1.IsWhole) (arg2 : Memref sig .tc .vmem S384x384 .f32) (harg2 : arg2.IsWhole) (arg3 : Memref sig .tc .vmem S9x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S384x24 .f32) (harg6 : arg6.IsWhole) (arg7 : Memref sig .tc .vmem S4x1x24 .f32) (harg7 : arg7.IsWhole) (arg8 : Memref sig .tc .vmem S816x128 .f32) (harg8 : arg8.IsWhole) (arg9 : Memref sig .tc .vmem S816x128 .f32) (harg9 : arg9.IsWhole) (arg10 : Memref sig .tc .vmem S816x128 .f32) (harg10 : arg10.IsWhole) (arg11 : Memref sig .tc .vmem S14x16x384 .f32) (harg11 : arg11.IsWhole)
    (x0 : Vec F S4x384x784 .f32) (x1 : Vec F S384x384 .f32) (x2 : Vec F S9x384 .f32) (x3 : Vec F S1x384 .f32) (x4 : Vec F S1x384 .f32) (x5 : Vec F S384x24 .f32)
  (R : sProp (MT nD τ sig Unit (Elt F) ℕ (UR sig nD τ) ℕ)) (O : Vec F S4x1x24 .f32) (X0 X1 X2 : Vec F S816x128 .f32) (A : Vec F S14x16x384 .f32)
  (E : Set ℕ) (Q : PUnit → sProp (MT nD τ sig Unit (Elt F) ℕ (UR sig nD τ) ℕ))
    (hk : ∀ X0 X1 X2 A g, St c arg1 arg2 arg3 arg4 arg5 arg6 arg7 arg8 arg9 arg10 arg11 x0 x1 x2 x3 x4 x5 R (outOf x0 x2 x3 x4 x5 g O) X0 X1 X2 A ⊢ Q ⟨⟩) :
    St c arg1 arg2 arg3 arg4 arg5 arg6 arg7 arg8 arg9 arg10 arg11 x0 x1 x2 x3 x4 x5 R O X0 X1 X2 A
      ⊢ wp frame (wpE (defs₀ (F := F)) Variants.none c none) E (cc0__conv_pool_kernel i arg1 harg1 arg2 harg2 arg3 harg3 arg4 harg4 arg5 harg5 arg6 harg6 arg7 harg7 arg8 harg8 arg9 harg9 arg10 harg10 arg11 harg11) Q := by
  delta cc0__conv_pool_kernel
  iterate 860 (first
    | with_reducible refine assoc ?_
    | with_reducible refine ret ?_
    | refine load_any (by first
        | exact hold8 | exact hold9 | exact hold10 | exact hold3 | exact hold4 | exact hold5 | exact hold11 | exact hold1 | exact hold6
        | exact hold7) ?_
    | refine act11 (by rfl) ?_ | refine act11_first (by rfl) ?_
    | refine slab8 (by rfl) (by rfl) ?_ | refine slab9 (by rfl) (by rfl) ?_ | refine slab10 (by rfl) (by rfl) ?_
    | refine store8 ?_ | refine store9 ?_ | refine store10 ?_
    | (refine row7 (b := 0) (hb := by omega) (g := ⟨_, _, _, _⟩) (by rfl) ?_; intro X0 X1 X2 A)
    | (refine row7 (b := 1) (hb := by omega) (g := ⟨_, _, _, _⟩) (by rfl) ?_; intro X0 X1 X2 A)
    | (refine row7 (b := 2) (hb := by omega) (g := ⟨_, _, _, _⟩) (by rfl) ?_; intro X0 X1 X2 A)
    | (refine row7 (b := 3) (hb := by omega) (g := ⟨_, _, _, _⟩) (by rfl) ?_; intro X0 X1 X2 A)
    | refine assoc ?_)
  as_aux_lemma =>
    iterate 860 (first
      | with_reducible refine assoc ?_
      | with_reducible refine ret ?_
      | refine load_any (by first
          | exact hold8 | exact hold9 | exact hold10 | exact hold3 | exact hold4 | exact hold5 | exact hold11 | exact hold1 | exact hold6
          | exact hold7) ?_
      | refine act11 (by rfl) ?_ | refine act11_first (by rfl) ?_
      | refine slab8 (by rfl) (by rfl) ?_ | refine slab9 (by rfl) (by rfl) ?_ | refine slab10 (by rfl) (by rfl) ?_
      | refine store8 ?_ | refine store9 ?_ | refine store10 ?_
      | (refine row7 (b := 0) (hb := by omega) (g := ⟨_, _, _, _⟩) (by rfl) ?_; intro X0 X1 X2 A)
      | (refine row7 (b := 1) (hb := by omega) (g := ⟨_, _, _, _⟩) (by rfl) ?_; intro X0 X1 X2 A)
      | (refine row7 (b := 2) (hb := by omega) (g := ⟨_, _, _, _⟩) (by rfl) ?_; intro X0 X1 X2 A)
      | (refine row7 (b := 3) (hb := by omega) (g := ⟨_, _, _, _⟩) (by rfl) ?_; intro X0 X1 X2 A)
      | refine assoc ?_)
    as_aux_lemma =>
      iterate 860 (first
        | with_reducible refine assoc ?_
        | with_reducible refine ret ?_
        | refine load_any (by first
            | exact hold8 | exact hold9 | exact hold10 | exact hold3 | exact hold4 | exact hold5 | exact hold11 | exact hold1 | exact hold6
            | exact hold7) ?_
        | refine act11 (by rfl) ?_ | refine act11_first (by rfl) ?_
        | refine slab8 (by rfl) (by rfl) ?_ | refine slab9 (by rfl) (by rfl) ?_ | refine slab10 (by rfl) (by rfl) ?_
        | refine store8 ?_ | refine store9 ?_ | refine store10 ?_
        | (refine row7 (b := 0) (hb := by omega) (g := ⟨_, _, _, _⟩) (by rfl) ?_; intro X0 X1 X2 A)
        | (refine row7 (b := 1) (hb := by omega) (g := ⟨_, _, _, _⟩) (by rfl) ?_; intro X0 X1 X2 A)
        | (refine row7 (b := 2) (hb := by omega) (g := ⟨_, _, _, _⟩) (by rfl) ?_; intro X0 X1 X2 A)
        | (refine row7 (b := 3) (hb := by omega) (g := ⟨_, _, _, _⟩) (by rfl) ?_; intro X0 X1 X2 A)
        | refine assoc ?_)
      as_aux_lemma =>
        iterate 860 (first
          | with_reducible refine assoc ?_
          | with_reducible refine ret ?_
          | refine load_any (by first
              | exact hold8 | exact hold9 | exact hold10 | exact hold3 | exact hold4 | exact hold5 | exact hold11 | exact hold1 | exact hold6
              | exact hold7) ?_
          | refine act11 (by rfl) ?_ | refine act11_first (by rfl) ?_
          | refine slab8 (by rfl) (by rfl) ?_ | refine slab9 (by rfl) (by rfl) ?_ | refine slab10 (by rfl) (by rfl) ?_
          | refine store8 ?_ | refine store9 ?_ | refine store10 ?_
          | (refine row7 (b := 0) (hb := by omega) (g := ⟨_, _, _, _⟩) (by rfl) ?_; intro X0 X1 X2 A)
          | (refine row7 (b := 1) (hb := by omega) (g := ⟨_, _, _, _⟩) (by rfl) ?_; intro X0 X1 X2 A)
          | (refine row7 (b := 2) (hb := by omega) (g := ⟨_, _, _, _⟩) (by rfl) ?_; intro X0 X1 X2 A)
          | (refine row7 (b := 3) (hb := by omega) (g := ⟨_, _, _, _⟩) (by rfl) ?_; intro X0 X1 X2 A)
          | refine assoc ?_)
        as_aux_lemma =>
          iterate 860 (first
            | with_reducible refine assoc ?_
            | with_reducible refine ret ?_
            | refine load_any (by first
                | exact hold8 | exact hold9 | exact hold10 | exact hold3 | exact hold4 | exact hold5 | exact hold11 | exact hold1 | exact hold6
                | exact hold7) ?_
            | refine act11 (by rfl) ?_ | refine act11_first (by rfl) ?_
            | refine slab8 (by rfl) (by rfl) ?_ | refine slab9 (by rfl) (by rfl) ?_ | refine slab10 (by rfl) (by rfl) ?_
            | refine store8 ?_ | refine store9 ?_ | refine store10 ?_
            | (refine row7 (b := 0) (hb := by omega) (g := ⟨_, _, _, _⟩) (by rfl) ?_; intro X0 X1 X2 A)
            | (refine row7 (b := 1) (hb := by omega) (g := ⟨_, _, _, _⟩) (by rfl) ?_; intro X0 X1 X2 A)
            | (refine row7 (b := 2) (hb := by omega) (g := ⟨_, _, _, _⟩) (by rfl) ?_; intro X0 X1 X2 A)
            | (refine row7 (b := 3) (hb := by omega) (g := ⟨_, _, _, _⟩) (by rfl) ?_; intro X0 X1 X2 A)
            | refine assoc ?_)
          as_aux_lemma =>
            repeat (first
              | with_reducible refine assoc ?_
              | with_reducible refine ret ?_
              | refine load_any (by first
                  | exact hold8 | exact hold9 | exact hold10 | exact hold3 | exact hold4 | exact hold5 | exact hold11 | exact hold1 | exact hold6
                  | exact hold7) ?_
              | refine act11 (by rfl) ?_ | refine act11_first (by rfl) ?_
              | refine slab8 (by rfl) (by rfl) ?_ | refine slab9 (by rfl) (by rfl) ?_ | refine slab10 (by rfl) (by rfl) ?_
              | refine store8 ?_ | refine store9 ?_ | refine store10 ?_
              | (refine row7 (b := 0) (hb := by omega) (g := ⟨_, _, _, _⟩) (by rfl) ?_; intro X0 X1 X2 A)
              | (refine row7 (b := 1) (hb := by omega) (g := ⟨_, _, _, _⟩) (by rfl) ?_; intro X0 X1 X2 A)
              | (refine row7 (b := 2) (hb := by omega) (g := ⟨_, _, _, _⟩) (by rfl) ?_; intro X0 X1 X2 A)
              | (refine row7 (b := 3) (hb := by omega) (g := ⟨_, _, _, _⟩) (by rfl) ?_; intro X0 X1 X2 A)
              | refine assoc ?_)
            exact (hk _ _ _ _ fun n => match n with | 0 => _ | 1 => _ | 2 => _ | _ => _).trans (le_wp_ret _ _ _ _ _)

end Cert.KernelIdeal.Body
-- ==== Proof.Body.Run.lean ====
/- The kernel's run with the pooled block in closed form: the proof data of the first region restated over `Body.block`, and the run's
   three results at the last boundary's contents. The segments are those of the generated frame. -/
module

public import proofs.«01_k».proof.Proof.Gen.KernelIdeal.Frame
public import proofs.«01_k».proof.Proof.Body.Read
public import proofs.«01_k».proof.Proof.Body.Walk

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- The pooled block of a point, from its input blocks. -/
def outsAt0 (c : Dev nD) (t : Fin cfg0.N) : Vec F S4x1x24 .f32 :=
  Body.block (iblk0 V c 0 t) (iblk0 V c 2 t) (iblk0 V c 3 t) (iblk0 V c 4 t) (iblk0 V c 5 t)

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

/-- What the body is not given: the other region's staging buffers, the generator register and the empty account. -/
def aside0 (c : Dev nD) (t : Fin cfg0.N) : sProp 𝕄 :=
  iprop(iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f)) ∗ iprop(∃ r, prngReg c r) ∗ (dat0 V c).owesAt () t.castSucc)

theorem close0 (c : Dev nD) (t : Fin cfg0.N) (X0 X1 X2 : Vec F S816x128 .f32) (A : Vec F S14x16x384 .f32) (g : Nat → Body.Junk F)
    (O : Vec F S4x1x24 .f32) :
    Body.St c (ms0_0 t) (ms0_1 t) (ms0_2 t) (ms0_3 t) (ms0_4 t) (ms0_5 t) (ms0_6 t) scM0_0 scM0_1 scM0_2 scM0_3
      (iblk0 V c 0 t) (iblk0 V c 1 t) (iblk0 V c 2 t) (iblk0 V c 3 t) (iblk0 V c 4 t) (iblk0 V c 5 t) (aside0 V c t)
      (Body.outOf (iblk0 V c 0 t) (iblk0 V c 2 t) (iblk0 V c 3 t) (iblk0 V c 4 t) (iblk0 V c 5 t) g O) X0 X1 X2 A ⊢ bodyPost0 V c t := by
  rw [Body.outOf_eq]
  unfold Body.St aside0 bodyPost0
  rw [show (dat0 V c).Φ t.succ = Pipeline.ΦA spec0 c from rfl, PhiA0_eq,
    show (dat0 V c).owesAt () t.succ = (dat0 V c).owesAt () t.castSucc from rfl,
    after0_0, after0_1, after0_2, after0_3, after0_4, after0_5, after0_6]
  unfold outsAt0
  iintro ⟨H0, H1, H2, H3, H4, H5, H6, HS0, HS1, HS2, HS3, ⟨HR4, HR5, HR6, HR7, HR8, HR9⟩, Hg, Ho⟩
  isplitl [HS0 HS1 HS2 HS3 HR4 HR5 HR6 HR7 HR8 HR9 Hg]
  · isplitl [HS0 HS1 HS2 HS3 HR4 HR5 HR6 HR7 HR8 HR9]
    · isplitl [HS0]; · iexists _; iexact HS0
      isplitl [HS1]; · iexists _; iexact HS1
      isplitl [HS2]; · iexists _; iexact HS2
      isplitl [HS3]; · iexists _; iexact HS3
      isplitl [HR4]; · iexact HR4
      isplitl [HR5]; · iexact HR5
      isplitl [HR6]; · iexact HR6
      isplitl [HR7]; · iexact HR7
      isplitl [HR8]; · iexact HR8
      iexact HR9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyAt0
  simp only [before0_0, before0_1, before0_2, before0_3, before0_4, before0_5]
  rw [show (dat0 V c).Φ t.castSucc = Pipeline.ΦA spec0 c from rfl, PhiA0_eq]
  iintro ⟨⟨⟨⟨%X0, HS0⟩, ⟨%X1, HS1⟩, ⟨%X2, HS2⟩, ⟨%A, HS3⟩, HR4, HR5, HR6, HR7, HR8, HR9⟩, Hg⟩, Ho, ⟨%d0, H0⟩, ⟨%d1, H1⟩, ⟨%d2, H2⟩, ⟨%d3, H3⟩, ⟨%d4, H4⟩, ⟨%d5, H5⟩, ⟨%d6, H6⟩⟩
  iapply (Body.body c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _) scM0_2 (Memref.isWhole_whole _)
    scM0_3 (Memref.isWhole_whole _) (iblk0 V c 0 t) (iblk0 V c 1 t) (iblk0 V c 2 t) (iblk0 V c 3 t) (iblk0 V c 4 t) (iblk0 V c 5 t)
    (aside0 V c t) ((dat0 V c).before 6 t d6) X0 X1 X2 A Set.univ (fun _ => bodyPost0 V c t)
    (fun X0 X1 X2 A g => close0 V c t X0 X1 X2 A g _))
  unfold Body.St aside0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HR4 HR5 HR6 HR7 HR8 HR9]
  · isplitl [HR4]; · iexact HR4
    isplitl [HR5]; · iexact HR5
    isplitl [HR6]; · iexact HR6
    isplitl [HR7]; · iexact HR7
    isplitl [HR8]; · iexact HR8
    iexact HR9
  isplitl [Hg]; · iexact Hg
  iexact Ho

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

set_option backward.isDefEq.respectTransparency.types false in
/-- Every run ends with the three results at the last boundary's contents and the arguments as launched. -/
theorem results : θ_run defs (onTc (τ := τ) (main (F := F))) ⟨m, fun _ => 0, ρ⟩ (fun r => ∀ c : Dev nD,
      (r.2.mem ((c.tc : Thread nD τ).loc main_v24_0) = W4 m ρ c (Proc.devRef .tc main_v24_0)
      ∧ r.2.mem ((c.tc : Thread nD τ).loc main_v24_1) = W4 m ρ c (Proc.devRef .tc main_v24_1)
      ∧ r.2.mem ((c.tc : Thread nD τ).loc main_v24_2) = W4 m ρ c (Proc.devRef .tc main_v24_2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨⟨h c _ (mem_uc main_v24_0 (by decide)), h c _ (mem_uc main_v24_1 (by decide)), h c _ (mem_uc main_v24_2 (by decide))⟩,
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run
-- ==== Proof.Arrays.Pooled.lean ====
/- The pooled rows the first region leaves, as the model's, and what the second region is entered with. -/
module

public import proofs.«01_k».proof.Proof.Arrays.Host
public import proofs.«01_k».proof.Proof.Arrays.Blocks
public import proofs.«01_k».proof.Proof.Body.Pool
public import proofs.«01_k».proof.Proof.Body.Run
public import proofs.«01_k».proof.Proof.Math.Model

@[expose] public section

noncomputable section

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Math

variable (m : (ℓ : Loc nD τ sig) → Buf (Elt Ideal) ℓ) (ρ : Dev nD → PrngReg)

/-- The model's arguments, read off a core's memory. -/
def args (c : Dev nD) : Args where
  x := m ((c : Thread nD τ).loc main_arg0)
  w := m ((c : Thread nD τ).loc main_arg1)
  γ := m ((c : Thread nD τ).loc main_arg2)
  β := m ((c : Thread nD τ).loc main_arg3)
  μ := m ((c : Thread nD τ).loc main_arg4)
  v := m ((c : Thread nD τ).loc main_arg5)
  pw := m ((c : Thread nD τ).loc main_arg6)
  fw := m ((c : Thread nD τ).loc main_arg7)
  fb := m ((c : Thread nD τ).loc main_arg8)

theorem image_eq (c : Dev nD) (t : Fin cfg0.N) (b : Fin 4) (ch : Fin 384) (r q : Nat) :
    Body.pixel (iblk0 (V1 m ρ) c 0 t) b ch r q
      = image (args m c) ⟨4 * t.val + b.val, by have := t_lt t; omega⟩ ch r q := by
  unfold Body.pixel image
  split
  · rename_i h
    refine (iblk0_image (V1 m ρ) c t b ch _).trans ?_
    show StableHlo.after hostOps0 (W0 m ρ c) (Proc.devRef .tc main_v0) _ = _
    rw [host_v0]
    refine shapeCast_apply _ shapeCasts_S64x384x28x28_S64x384x784 _ _ ?_
    rw [Shape.rowMajor_val_four, Shape.rowMajor_val_three]
    show (((4 * t.val + b.val) * 384 + ch.val) * 28 + (r - 1)) * 28 + (q - 1) = ((4 * t.val + b.val) * 384 + ch.val) * 784 + (28 * (r - 1) + (q - 1))
    omega
  · rfl

theorem taps_eq (c : Dev nD) (t : Fin cfg0.N) (ch : Fin 384) (e d : Nat) (he : e < 3) (hd : d < 3) :
    Body.wt (iblk0 (V1 m ρ) c 2 t) ch e d = kernel (args m c) ch e d := by
  unfold Body.wt kernel
  rw [dif_pos (show 3 * e + d < 9 by omega), dif_pos ⟨he, hd⟩, iblk0_taps]
  show StableHlo.after hostOps0 (W0 m ρ c) (Proc.devRef .tc main_v2) _ = _
  rw [host_v2]
  refine (transpose_apply _ _ transposes_S384x9_S9x384_1_0 _ (ix2 (n0 := 384) (n1 := 9) ch ⟨3 * e + d, by omega⟩) ?_).trans ?_
  · exact fun a => match a with | ⟨0, _⟩ => rfl | ⟨1, _⟩ => rfl
  · refine shapeCast_apply _ shapeCasts_S384x1x3x3_S384x9 _ _ ?_
    rw [Shape.rowMajor_val_four, Shape.rowMajor_val_two]
    show ((ch.val * 1 + 0) * 3 + e) * 3 + d = ch.val * 9 + (3 * e + d)
    omega

theorem scale_eq (c : Dev nD) (t : Fin cfg0.N) (ch : Fin 384) :
    iblk0 (V1 m ρ) c 3 t (ix2 (n0 := 1) (n1 := 384) 0 ch) = (args m c).γ (ix1 ch) * Math.root (args m c) ch := by
  rw [iblk0_scale]
  show StableHlo.after hostOps0 (W0 m ρ c) (Proc.devRef .tc main_v7) _ = _
  rw [host_v7]
  refine (broadcastInDim_apply _ bcast_S384_S1x384_1 _ _ (ix1 (n := 384) ch) ?_).trans ?_
  · exact fun a => match a with | ⟨0, _⟩ => rfl
  · rfl

theorem shift_eq (c : Dev nD) (t : Fin cfg0.N) (ch : Fin 384) :
    iblk0 (V1 m ρ) c 4 t (ix2 (n0 := 1) (n1 := 384) 0 ch)
      = (args m c).β (ix1 ch) - (args m c).μ (ix1 ch) * (args m c).γ (ix1 ch) * Math.root (args m c) ch := by
  rw [iblk0_shift]
  show StableHlo.after hostOps0 (W0 m ρ c) (Proc.devRef .tc main_v11) _ = _
  rw [host_v11]
  refine (broadcastInDim_apply _ bcast_S384_S1x384_1 _ _ (ix1 (n := 384) ch) ?_).trans ?_
  · exact fun a => match a with | ⟨0, _⟩ => rfl
  · rfl

theorem mix_eq (c : Dev nD) (t : Fin cfg0.N) (ch : Fin 384) (r : Fin 24) :
    iblk0 (V1 m ρ) c 5 t (ix2 (n0 := 384) (n1 := 24) ch r) = (args m c).pw (ix4 (n0 := 24) (n1 := 384) (n2 := 1) (n3 := 1) r ch 0 0) := by
  rw [iblk0_mix]
  show StableHlo.after hostOps0 (W0 m ρ c) (Proc.devRef .tc main_v13) _ = _
  rw [host_v13]
  refine (transpose_apply _ _ transposes_S24x384_S384x24_1_0 _ (ix2 (n0 := 24) (n1 := 384) r ch) ?_).trans ?_
  · exact fun a => match a with | ⟨0, _⟩ => rfl | ⟨1, _⟩ => rfl
  · refine shapeCast_apply _ shapeCasts_S24x384x1x1_S24x384 _ _ ?_
    rw [Shape.rowMajor_val_four, Shape.rowMajor_val_two]
    show ((r.val * 384 + ch.val) * 1 + 0) * 1 + 0 = r.val * 384 + ch.val
    omega

theorem rows_congr {P P' W W' : Nat → Nat → EReal} (hP : ∀ e d, P e d = P' e d) (hW : ∀ e d, e < 3 → d < 3 → W e d = W' e d) :
    rows P W = rows P' W' := by
  unfold rows
  simp only [hP]
  rw [hW 0 0, hW 0 1, hW 0 2, hW 1 0, hW 1 1, hW 1 2, hW 2 0, hW 2 1, hW 2 2] <;> decide

theorem gated_eq (c : Dev nD) (t : Fin cfg0.N) (b : Fin 4) (ch : Fin 384) (i a : Nat) :
    Body.gated (iblk0 (V1 m ρ) c 0 t) (iblk0 (V1 m ρ) c 2 t) (iblk0 (V1 m ρ) c 3 t) (iblk0 (V1 m ρ) c 4 t) b ch i a
      = gate (folded (args m c) ⟨4 * t.val + b.val, by have := t_lt t; omega⟩ ch i a) := by
  unfold Body.gated folded conv
  rw [scale_eq, shift_eq, rows_congr (fun e d => image_eq m ρ c t b ch _ _) (fun e d he hd => taps_eq m ρ c t ch e d he hd)]
  rfl

/-- A point's block is the model's pooled rows of its four pictures. -/
theorem outs_eq (c : Dev nD) (t : Fin cfg0.N) (b : Fin 4) (z : Fin 1) (r : Fin 24) :
    Run.outsAt0 (V1 m ρ) c t (ix3 b z r) = pooled (args m c) ⟨4 * t.val + b.val, by have := t_lt t; omega⟩ r := by
  unfold Run.outsAt0
  rw [Body.block_apply]
  unfold pooled mix
  simp only [gated_eq, mix_eq]
  rfl

/-- The array of pooled rows after the first region. -/
theorem arr_pooled (c : Dev nD) : (Run.dat0 (V1 m ρ) c).arrAt 6 cfg0.N
    = (fun i => pooled (args m c) (i 0) (i 2) : (⟨3, ![64, 1, 24]⟩ : Shape).Idx → EReal) := by
  refine (Run.dat0 (V1 m ρ) c).arrAt_eq_of_cover 6 (fun i => pooled (args m c) (i 0) (i 2) : (⟨3, ![64, 1, 24]⟩ : Shape).Idx → EReal)
    (fun t _ => ?_) (fun i => ?_)
  · show (Run.dat0 (V1 m ρ) c).after 6 t = _
    rw [Run.after0_6]
    funext y
    obtain ⟨b, z, r, rfl⟩ : ∃ (b : Fin 4) (z : Fin 1) (r : Fin 24), y = ix3 b z r :=
      ⟨y 0, y 1, y 2, eq_ix3 (n0 := 4) (n1 := 1) (n2 := 24) y⟩
    refine (outs_eq m ρ c t b z r).trans ?_
    refine congrArg₂ (pooled (args m c)) (Fin.ext ?_) (Fin.ext ?_)
    · refine Eq.trans ?_ ((cfg0.win 6).rect_emb_val t (ix3 b z r) 0).symm
      rw [index_out]
      show 4 * t.val + b.val = t.val * 4 + b.val
      omega
    · refine Eq.trans ?_ ((cfg0.win 6).rect_emb_val t (ix3 b z r) 2).symm
      rw [index_out]
      show r.val = 0 * 24 + r.val
      omega
  · have h0 : (i 0).val < 64 := (i 0).isLt
    have h1 : (i 1).val < 1 := (i 1).isLt
    have hN : (i 0).val / 4 < cfg0.N := by show _ < grid0.N; rw [N_0]; omega
    refine ⟨⟨(i 0).val / 4, hN⟩, flush0_6 _, ?_⟩
    have h : ((cfg0.win 6).blk ⟨(i 0).val / 4, hN⟩).view.emb (ix3 (n0 := 4) (n1 := 1) (n2 := 24) ⟨(i 0).val % 4, by omega⟩ 0 (i 2)) = i := by
      refine funext fun a => Fin.ext ?_
      refine ((cfg0.win 6).rect_emb_val ⟨(i 0).val / 4, hN⟩ _ a).trans ?_
      rw [index_out]
      match a with
      | ⟨0, _⟩ => show (i 0).val / 4 * 4 + (i 0).val % 4 = (i 0).val; omega
      | ⟨1, _⟩ => show 0 * 1 + 0 = (i 1).val; omega
      | ⟨2, _⟩ => show 0 * 24 + (i 2).val = (i 2).val; omega
    have hm := ((cfg0.win 6).blk ⟨(i 0).val / 4, hN⟩).view.emb_mem_set (ix3 (n0 := 4) (n1 := 1) (n2 := 24) ⟨(i 0).val % 4, by omega⟩ 0 (i 2))
    rw [h] at hm
    exact hm

/-- What the second region is entered with. -/
theorem enter_pooled (c : Dev nD) (n : Fin 64) (r : Fin 24) :
    Run.V3 m ρ c main_v21 (ix2 (n0 := 64) (n1 := 24) n r) = pooled (args m c) n r := by
  show StableHlo.after hostOps1 (Run.W2 m ρ c) (Proc.devRef .tc main_v21) _ = _
  rw [host_v21]
  refine (shapeCast_apply _ shapeCasts_S64x1x24_S64x24 _ (ix3 (n0 := 64) (n1 := 1) (n2 := 24) n 0 r) ?_).trans ?_
  · rw [Shape.rowMajor_val_three, Shape.rowMajor_val_two]
    show (n.val * 1 + 0) * 24 + r.val = n.val * 24 + r.val
    omega
  · exact congrFun ((Run.W2_arr m ρ c 6).trans (arr_pooled m ρ c)) _

theorem enter_fc (c : Dev nD) (r : Fin 24) (k : Fin 16) :
    Run.V3 m ρ c main_v22 (ix2 (n0 := 24) (n1 := 16) r k) = (args m c).fw (ix2 (n0 := 16) (n1 := 24) k r) := by
  show StableHlo.after hostOps1 (Run.W2 m ρ c) (Proc.devRef .tc main_v22) _ = _
  rw [host_v22, Run.W2_args m ρ c main_arg7 (by decide)]
  exact transpose_apply _ _ transposes_S16x24_S24x16_1_0 _ (ix2 (n0 := 16) (n1 := 24) k r) fun a => match a with | ⟨0, _⟩ => rfl | ⟨1, _⟩ => rfl

theorem enter_bias (c : Dev nD) (k : Fin 16) :
    Run.V3 m ρ c main_v23 (ix2 (n0 := 1) (n1 := 16) 0 k) = (args m c).fb (ix1 k) := by
  show StableHlo.after hostOps1 (Run.W2 m ρ c) (Proc.devRef .tc main_v23) _ = _
  rw [host_v23, Run.W2_args m ρ c main_arg8 (by decide)]
  exact broadcastInDim_apply _ bcast_S16_S1x16_1 _ _ (ix1 (n := 16) k) fun a => match a with | ⟨0, _⟩ => rfl

end Cert.KernelIdeal.Arrays
-- ==== Proof.Math.Route.lean ====
/- The two greatest of a row of sixteen: the first position of the maximum, and the first position of the maximum once that
   one is hidden. Both ways of finding them (a minimum over the positions that attain it, a stable sort) agree. -/
module

public import Idealize.ShloMosaic.Lib.SortPrefix
public import Idealize.ShloMosaic.PureOps.Ideal.Laws

@[expose] public section

noncomputable section

namespace Cert.Math

open Idealize.ShloMosaic

/-- `a` is the first position at which the row is greatest. -/
def IsTop (l : Fin 16 → EReal) (a : Fin 16) : Prop := (∀ k, l k ≤ l a) ∧ ∀ k, k < a → l k < l a

theorem exists_isTop (l : Fin 16 → EReal) : ∃ a, IsTop l a := by
  classical
  obtain ⟨m, -, hm⟩ := Finset.exists_max_image Finset.univ l ⟨0, Finset.mem_univ _⟩
  have hne : (Finset.univ.filter fun k => l m ≤ l k).Nonempty := ⟨m, Finset.mem_filter.mpr ⟨Finset.mem_univ _, le_refl _⟩⟩
  have hmem := Finset.min'_mem _ hne
  refine ⟨(Finset.univ.filter fun k => l m ≤ l k).min' hne, fun k => (hm k (Finset.mem_univ _)).trans (Finset.mem_filter.mp hmem).2, fun k hk => ?_⟩
  by_contra h
  have h1 : l m ≤ l k := (Finset.mem_filter.mp hmem).2.trans (not_lt.mp h)
  exact absurd (Finset.min'_le _ k (Finset.mem_filter.mpr ⟨Finset.mem_univ _, h1⟩)) (not_le.mpr hk)

/-- The first position of the greatest entry. -/
def first (l : Fin 16 → EReal) : Fin 16 := (exists_isTop l).choose
theorem first_isTop (l : Fin 16 → EReal) : IsTop l (first l) := (exists_isTop l).choose_spec

/-- The row with its first greatest entry hidden. -/
def hidden (l : Fin 16 → EReal) (k : Fin 16) : EReal := if k = first l then ⊥ else l k

/-- The first position of the second greatest entry. -/
def second (l : Fin 16 → EReal) : Fin 16 := first (hidden l)

theorem second_ne {l : Fin 16 → EReal} (hl : ∀ k, ⊥ < l k) : second l ≠ first l := by
  intro h
  obtain ⟨k, hk⟩ : ∃ k, k ≠ first l := ⟨if first l = 0 then 1 else 0, by split <;> omega⟩
  have h1 := (first_isTop (hidden l)).1 k
  rw [show first (hidden l) = first l from h] at h1
  unfold hidden at h1
  rw [if_neg hk, if_pos rfl] at h1
  exact absurd (hl k) (not_lt.mpr h1)

/-- The maximum of the row, folded from minus infinity. -/
theorem fold_top (l : Fin 16 → EReal) : (Finset.univ : Finset (Fin 16)).fold max ⊥ l = l (first l) := by
  refine le_antisymm ?_ ?_
  · exact (Finset.fold_max_le _).mpr ⟨bot_le, fun k _ => (first_isTop l).1 k⟩
  · exact (Finset.le_fold_max _).mpr (.inr ⟨first l, Finset.mem_univ _, le_refl _⟩)

theorem toInt_lane : ∀ k : Fin 16, (BitVec.ofNat 32 k.val).toInt = k.val := by decide

theorem toInt_minsi_le (c x y : BitVec 32) : c.toInt ≤ (IntOp.minsi x y).toInt ↔ c.toInt ≤ x.toInt ∧ c.toInt ≤ y.toInt := by
  unfold IntOp.minsi
  split
  · rename_i h
    rw [BitVec.slt_iff_toInt_lt] at h
    omega
  · rename_i h
    rw [BitVec.slt_iff_toInt_lt] at h
    omega

/-- The least position that attains the maximum. -/
theorem fold_lane {l : Fin 16 → EReal} {a : Fin 16} (h : IsTop l a) (v : Fin 16 → BitVec 32)
    (hv : ∀ k, v k = if l k = l a then BitVec.ofNat 32 k.val else 16#32) :
    (Finset.univ : Finset (Fin 16)).fold IntOp.minsi 2147483647#32 v = BitVec.ofNat 32 a.val := by
  have hr := fun c => Finset.fold_op_rel_iff_and (op := IntOp.minsi (w := 32)) (r := fun x y => x.toInt ≤ y.toInt)
    (fun {x y z} => toInt_minsi_le x y z) (s := (Finset.univ : Finset (Fin 16))) (b := 2147483647#32) (f := v) (c := c)
  refine BitVec.eq_of_toInt_eq (le_antisymm ?_ ?_)
  · have h1 := ((hr _).mp (le_refl _)).2 a (Finset.mem_univ _)
    rwa [hv a, if_pos rfl] at h1
  · refine (hr _).mpr ⟨?_, fun k _ => ?_⟩
    · rw [toInt_lane]
      have := a.isLt
      have e : (2147483647#32 : BitVec 32).toInt = 2147483647 := by decide
      omega
    · rw [hv k, toInt_lane]
      split
      · rename_i e
        rw [toInt_lane]
        by_contra hk
        exact absurd (h.2 k (Fin.lt_def.mpr (by omega))) (by rw [e]; exact lt_irrefl _)
      · have := a.isLt
        have e : (16#32 : BitVec 32).toInt = 16 := by decide
        omega

/-- On a list in increasing order a stable sort breaks its ties by position, whether it is told to or not. -/
theorem stable_of_ties {n : Nat} (B R : Fin n → Fin n → Bool) (h : ∀ a b, a < b → B b a = R b a) (l : List (Fin n))
    (hl : l.Pairwise (· < ·)) : stableSort B l = stableSort R l := by
  induction l with
  | nil => rfl
  | cons a l ih =>
    rw [List.pairwise_cons] at hl
    unfold stableSort
    rw [ih hl.2]
    exact insertBefore_congr B R a _ fun b hb => h a b (hl.1 b ((perm_stableSort R l).mem_iff.mp hb))

theorem sortedFrom_of_ties {n : Nat} (B R : Fin n → Fin n → Bool) (h : ∀ a b, a < b → B b a = R b a) :
    sortedFrom B = sortedFrom R := by
  funext k
  have e : sortPositions n B = sortPositions n R := stable_of_ties B R h _ (List.pairwise_lt_finRange n)
  unfold sortedFrom
  rw [List.get_of_eq e]
  rfl

/-- The first two positions of the row sorted by value, greatest first. -/
theorem sorted_top {l : Fin 16 → EReal} (hl : ∀ k, ⊥ < l k) (i : Fin 2) :
    sortedFrom (fun k k' : Fin 16 => decide (l k' < l k)) (i.castLE (by decide)) = ![first l, second l] i := by
  classical
  have h1 := first_isTop l
  have h2 := first_isTop (hidden l)
  have hne := second_ne hl
  have hs : hidden l (second l) = l (second l) := if_neg hne
  have hB := StrictTotalBefore.of_key_then_position (n := 16) (fun x y : EReal => decide (y < x)) l
    (fun a => by simp) (fun a b c hab hbc => by
      simp only [decide_eq_true_eq] at hab hbc ⊢
      exact hbc.trans hab)
    (fun a b => by
      simp only [decide_eq_true_eq]
      rcases lt_trichotomy a b with h | h | h
      · exact .inr (.inr h)
      · exact .inr (.inl h)
      · exact .inl h)
  have no1 : ∀ p, p ≠ first l → (decide (l (first l) < l p) || (decide (l p = l (first l)) && decide (p < first l))) = false := by
    intro p _
    have a1 : ¬ l (first l) < l p := not_lt.mpr (h1.1 p)
    have a2 : ¬ (l p = l (first l) ∧ p < first l) := fun h => absurd (h1.2 p h.2) (by rw [h.1]; exact lt_irrefl _)
    rw [decide_eq_false a1, Bool.false_or, ← Bool.decide_and, decide_eq_false a2]
  have no2 : ∀ p, p ≠ first l → (decide (l (second l) < l p) || (decide (l p = l (second l)) && decide (p < second l))) = false := by
    intro p hp
    have hh : hidden l p = l p := if_neg hp
    have a1 : ¬ l (second l) < l p := not_lt.mpr (hh ▸ hs ▸ h2.1 p)
    have a2 : ¬ (l p = l (second l) ∧ p < second l) := fun h => by
      have h3 := h2.2 p h.2
      rw [hh, show hidden l (first (hidden l)) = l (second l) from hs, h.1] at h3
      exact lt_irrefl _ h3
    rw [decide_eq_false a1, Bool.false_or, ← Bool.decide_and, decide_eq_false a2]
  rw [sortedFrom_of_ties _ (fun k k' : Fin 16 => decide (l k' < l k) || (decide (l k = l k') && decide (k < k'))) (fun a b hab => by
    have : ¬ b < a := not_lt.mpr hab.le
    simp [this])]
  refine hB.sortedFrom_eq_of_prefix (by decide) ![first l, second l] ?_ ?_ ?_ i
  · intro a b hab
    match a, b with
    | 0, 0 => rfl
    | 1, 1 => rfl
    | 0, 1 => exact absurd hab.symm hne
    | 1, 0 => exact absurd hab hne
  · intro a b hab
    match a, b with
    | 0, 0 => exact absurd hab (lt_irrefl _)
    | 1, 1 => exact absurd hab (lt_irrefl _)
    | 0, 1 => exact no1 _ hne
    | 1, 0 => exact absurd hab (by decide)
  · intro a p hp
    have hp0 : p ≠ first l := fun e => hp 0 e.symm
    match a with
    | 0 => exact no1 p hp0
    | 1 => exact no2 p hp0

end Cert.Math
-- ==== Proof.Math.Weights.lean ====
/- The softmax of a row of reals and the two weights picked from it. -/
module

public import proofs.«01_k».proof.Proof.Math.Norm
public import proofs.«01_k».proof.Proof.Math.Route

@[expose] public section

noncomputable section

namespace Cert.Math

open Idealize.ShloMosaic

/-- The softmax of a row at a position. -/
def prob (l : Fin 16 → EReal) (k : Fin 16) : EReal :=
  Ideal.div (Ideal.exp (l k - l (first l))) (∑ j, Ideal.exp (l j - l (first l)))

/-- What is added to the two picked weights' sum before they are divided by it. -/
def tiny : EReal := Ideal.ofBits .f32 0x358637BD#32

/-- The two picked positions. -/
def pick (l : Fin 16 → EReal) (j : Fin 2) : Fin 16 := ![first l, second l] j

/-- The picked weights, normalised. -/
def weight (l : Fin 16 → EReal) (j : Fin 2) : EReal :=
  Ideal.div (prob l (pick l j)) (prob l (first l) + prob l (second l) + tiny)

theorem tiny_real : ∃ e : ℝ, tiny = e ∧ 0 < e := by
  refine ⟨(2 : ℝ) ^ (-20 : ℤ) * (1 + 407485 / 2 ^ 23), ?_, by positivity⟩
  simp [tiny, Ideal.ofBits, Ideal.ieee, -EReal.coe_mul]
  norm_num

theorem sum_coe (r : Fin 16 → ℝ) : ∑ j, ((r j : ℝ) : EReal) = ((∑ j, r j : ℝ) : EReal) := by
  induction (Finset.univ : Finset (Fin 16)) using Finset.induction_on with
  | empty => rfl
  | insert a s ha ih => rw [Finset.sum_insert ha, Finset.sum_insert ha, ih, EReal.coe_add]

theorem prob_real {l : Fin 16 → EReal} (hl : ∀ k, Real (l k)) (k : Fin 16) : ∃ p : ℝ, prob l k = p ∧ 0 ≤ p := by
  choose r hr using hl
  have e : ∀ j, Ideal.exp (l j - l (first l)) = ((Real.exp (r j - r (first l)) : ℝ) : EReal) := fun j => by
    rw [hr, hr, ← EReal.coe_sub, Ideal.exp_coe]
  have hpos : (0 : ℝ) < ∑ j, Real.exp (r j - r (first l)) := Finset.sum_pos (fun j _ => Real.exp_pos _) ⟨0, Finset.mem_univ _⟩
  refine ⟨Real.exp (r k - r (first l)) * (1 / ∑ j, Real.exp (r j - r (first l))), ?_, ?_⟩
  · unfold prob
    rw [Finset.sum_congr rfl fun j _ => e j, e, sum_coe, Ideal.div_coe hpos.ne', ← EReal.coe_mul]
  · exact mul_nonneg (Real.exp_pos _).le (by positivity)

/-- Multiplying by the reciprocal of the sum is dividing by it. -/
theorem weight_eq {l : Fin 16 → EReal} (hl : ∀ k, Real (l k)) (j : Fin 2) :
    prob l (pick l j) * Ideal.div 1 (prob l (first l) + prob l (second l) + tiny) = weight l j := by
  unfold weight
  obtain ⟨p, hp, hp0⟩ := prob_real hl (first l)
  obtain ⟨q, hq, hq0⟩ := prob_real hl (second l)
  obtain ⟨e, he, he0⟩ := tiny_real
  have hd : p + q + e ≠ 0 := by positivity
  rw [hp, hq, he, ← EReal.coe_add, ← EReal.coe_add, Ideal.div_coe hd, Ideal.div_coe hd, one_mul]

end Cert.Math
-- ==== Proof.Arrays.Route.lean ====
/- The second region's results read at an index: the logits, the two picked lanes and their weights, of the row's logits. -/
module

public import proofs.«01_k».proof.Proof.Gen.KernelIdeal.Frame
public import proofs.«01_k».proof.Proof.Math.Weights
public import Idealize.ShloMosaic.Lib.ValueIdx
public import Idealize.ShloMosaic.Lib.Pipeline.Value
public import Idealize.ShloMosaic.Lib.MatmulPlain
public import Idealize.ShloMosaic.Lib.IdealHost

@[expose] public section

noncomputable section

namespace Cert.KernelIdeal.Route

open Cert.KernelIdeal Cert.KernelIdeal.Gen Cert.Math
open Idealize.ShloMosaic Idealize.ShloMosaic.ValueIdx

theorem col_apply {α : Type} (v : S64.Idx → α) (n : Fin 64) (z : Fin 1) :
    shapeCast S64x1 v shapeCasts_S64_S64x1 (ix2 n z) = v (ix1 n) :=
  shapeCast_apply v shapeCasts_S64_S64x1 (ix2 n z) (ix1 n) (by
    rw [Shape.rowMajor_val_one, Shape.rowMajor_val_two]
    show n.val = n.val * 1 + z.val
    omega)

theorem spread_apply {α : Type} (v : S64x1.Idx → α) (n : Fin 64) (k : Fin 16) :
    broadcastTo S64x16 v broadcasts_S64x1_S64x16 (ix2 n k) = v (ix2 n 0) :=
  broadcastTo_apply v broadcasts_S64x1_S64x16 (ix2 n k) (ix2 n 0) (fun a => match a with | ⟨0, _⟩ => rfl | ⟨1, _⟩ => rfl)

theorem lift_eq (n : Fin 64) (k : Fin 16) : reduces_S64x16_S64.lift (ix1 n) k = ix2 (n0 := 64) (n1 := 16) n k :=
  funext fun a => Fin.ext (match a with | ⟨0, _⟩ => rfl | ⟨1, _⟩ => rfl)

theorem max_apply (v : FVec Ideal S64x16 .f32) (n : Fin 64) (l : Fin 16 → EReal) (hl : ∀ k, v (ix2 n k) = l k) :
    multiReduction .maximumf [1] S64 v 0xFF800000#32 reduces_S64x16_S64 (.inl rfl) rfl (ix1 n) = l (first l) := by
  refine (Ideal.multiReduction_maximumf_single v _ reduces_S64x16_S64 _ _ _).trans ?_
  rw [show FloatOps.ofBits (F := Ideal) .f32 0xFF800000#32 = (⊥ : EReal) from by
    show Ideal.ofBits .f32 0xFF800000#32 = _
    simp [Ideal.ofBits, Ideal.ieee]]
  refine Eq.trans ?_ (fold_top l)
  exact Finset.fold_congr fun k _ => (congrArg v (lift_eq n k)).trans (hl k)

theorem sum_apply (v : FVec Ideal S64x16 .f32) (n : Fin 64) (l : Fin 16 → EReal) (hl : ∀ k, v (ix2 n k) = l k) :
    multiReduction .add [1] S64 v 0x00000000#32 reduces_S64x16_S64 (.inl rfl) rfl (ix1 n) = ∑ k, l k := by
  refine (Ideal.multiReduction_add_single v _ reduces_S64x16_S64 _ _ _).trans ?_
  exact Finset.sum_congr rfl fun k _ => (congrArg v (lift_eq n k)).trans (hl k)

theorem min_apply (v : IVec S64x16 32) (n : Fin 64) (f : Fin 16 → BitVec 32) (hf : ∀ k, v (ix2 n k) = f k) :
    multiReductionI .minsi [1] S64 v 2147483647#32 reduces_S64x16_S64 rfl (ix1 n)
      = (Finset.univ : Finset (Fin 16)).fold IntOp.minsi 2147483647#32 f := by
  refine (multiReductionI_eq_fold .minsi v 2147483647#32 reduces_S64x16_S64 rfl (ix1 n)).trans ?_
  refine (reduces_S64x16_S64.fold_filter_drop_single _ _ v (ix1 n)).trans ?_
  exact Finset.fold_congr fun k _ => (congrArg v (lift_eq n k)).trans (hf k)

theorem lane_apply (n : Fin 64) (k : Fin 16) :
    iota .tc S64x16 32 [1] iota_S64x16_d1_w32 (ix2 n k) = BitVec.ofNat 32 k.val :=
  iota_single_apply .tc S64x16 32 1 iota_S64x16_d1_w32 (ix2 n k)

theorem lane_eq : ∀ k a : Fin 16, IntOp.cmpi .eq (BitVec.ofNat 32 k.val) (BitVec.ofNat 32 a.val) = BitVec.ofBool (decide (k = a)) := by decide

theorem select_ofBool {α : Type} (p : Prop) [Decidable p] (x y : α) : Scalar.select (BitVec.ofBool (decide p)) x y = if p then x else y := by
  by_cases h : p <;> simp [Scalar.select, h]

/-- The logits read at an image and a lane. -/
theorem pay3_apply (p : Vec Ideal S64x24 .f32) (w : Vec Ideal S24x16 .f32) (b : Vec Ideal S1x16 .f32) (n : Fin 64) (k : Fin 16) :
    k1_pay3 p w b (ix2 n k) = (∑ r : Fin 24, p (ix2 n r) * w (ix2 r k)) + b (ix2 0 k) := by
  unfold k1_pay3
  rw [addf_apply]
  refine congrArg₂ (fun u v : EReal => u + v) ?_ ?_
  · rw [show dot_S64x24_S24x16_S64x16_1_0_0_1_n_n = DotDims.plain 64 24 16 from rfl]
    simp only [matmul]
    refine (Ideal.matmul_plain_apply none _ _ _ n k).trans ?_
    rw [show constant (F := Ideal) (⟨2, ![64, 16]⟩ : Shape) .f32 0x00000000#32 (ix2 n k) = (0 : EReal) from Ideal.ofBits_zero_f32, zero_add]
    exact Finset.sum_congr rfl fun r _ => congrArg₂ (fun u v : EReal => u * v)
      (shapeCast_apply p shapeCasts_S64x24_S64x24 (ix2 n r) (ix2 n r) rfl) (shapeCast_apply w shapeCasts_S24x16_S24x16 (ix2 r k) (ix2 r k) rfl)
  · refine (broadcastTo_apply _ broadcasts_S1x16_S64x16 (ix2 n k) (ix2 0 k) (fun a => match a with | ⟨0, _⟩ => rfl | ⟨1, _⟩ => rfl)).trans ?_
    exact shapeCast_apply b shapeCasts_S1x16_S1x16 (ix2 0 k) (ix2 0 k) rfl

variable {p : Vec Ideal S64x24 .f32} {w : Vec Ideal S24x16 .f32} {b : Vec Ideal S1x16 .f32} {n : Fin 64} {l : Fin 16 → EReal}

theorem pay4_apply (hl : ∀ k, k1_pay3 p w b (ix2 n k) = l k) : k1_pay4 p w b (ix2 n 0) = l (first l) := by
  unfold k1_pay4
  exact (col_apply _ n 0).trans (max_apply _ n l hl)

theorem pay5_apply (hl : ∀ k, k1_pay3 p w b (ix2 n k) = l k) : k1_pay5 p w b (ix2 n 0) = BitVec.ofNat 32 (first l).val := by
  unfold k1_pay5
  refine (col_apply _ n 0).trans ((min_apply _ n _ fun k => rfl).trans (fold_lane (first_isTop l) _ fun k => ?_))
  rw [select_apply, cmpf_apply, spread_apply, pay4_apply hl, hl, lane_apply]
  exact select_ofBool _ _ _

theorem masked_apply (hl : ∀ k, k1_pay3 p w b (ix2 n k) = l k) (k : Fin 16) :
    select (cmpi .eq (iota .tc S64x16 32 [1] iota_S64x16_d1_w32) (broadcastTo S64x16 (k1_pay5 p w b) broadcasts_S64x1_S64x16))
      (broadcast S64x16 (Named.named (F := Ideal) κ "mask" 0xF149F2CA#32 : Ideal .f32)) (k1_pay3 p w b) (ix2 n k) = hidden l k := by
  rw [select_apply, hl]
  show Scalar.select (IntOp.cmpi .eq (iota .tc S64x16 32 [1] iota_S64x16_d1_w32 (ix2 n k)) (broadcastTo S64x16 (k1_pay5 p w b) broadcasts_S64x1_S64x16 (ix2 n k))) _ _ = _
  rw [lane_apply, spread_apply, pay5_apply hl, lane_eq, select_ofBool]
  rfl

theorem pay6_apply (hl : ∀ k, k1_pay3 p w b (ix2 n k) = l k) : k1_pay6 p w b (ix2 n 0) = BitVec.ofNat 32 (second l).val := by
  unfold k1_pay6
  refine (col_apply _ n 0).trans ((min_apply _ n _ fun k => rfl).trans (fold_lane (first_isTop (hidden l)) _ fun k => ?_))
  rw [select_apply, cmpf_apply, spread_apply, masked_apply hl, lane_apply, col_apply, max_apply _ n (hidden l) (masked_apply hl)]
  exact select_ofBool _ _ _

theorem pay7_apply (hl : ∀ k, k1_pay3 p w b (ix2 n k) = l k) (k : Fin 16) : k1_pay7 p w b (ix2 n k) = prob l k := by
  have he : ∀ j, exp (subf (k1_pay3 p w b) (broadcastTo S64x16 (k1_pay4 p w b) broadcasts_S64x1_S64x16)) (ix2 n j) = Ideal.exp (l j - l (first l)) := by
    intro j
    show Ideal.exp (k1_pay3 p w b (ix2 n j) - broadcastTo S64x16 (k1_pay4 p w b) broadcasts_S64x1_S64x16 (ix2 n j)) = _
    rw [spread_apply, pay4_apply hl, hl]
  unfold k1_pay7 prob
  rw [divf_apply]
  refine congrArg₂ Ideal.div (he k) ?_
  rw [spread_apply, col_apply]
  exact sum_apply _ n _ he

theorem picked_apply (a : Fin 16) (v29 : IVec S64x1 32) (hv : v29 (ix2 n 0) = BitVec.ofNat 32 a.val) (v36 : FVec Ideal S64x16 .f32) :
    shapeCast S64x1 (multiReduction .add [1] S64 (select (cmpi .eq (iota .tc S64x16 32 [1] iota_S64x16_d1_w32) (broadcastTo S64x16 v29 broadcasts_S64x1_S64x16))
      v36 (broadcast S64x16 (Scalar.ofBits .f32 0x00000000#32))) 0x00000000#32 reduces_S64x16_S64 (.inl rfl) rfl) shapeCasts_S64_S64x1 (ix2 n 0)
      = v36 (ix2 n a) := by
  rw [col_apply, sum_apply _ n (fun k => if k = a then v36 (ix2 n k) else 0)]
  · rw [Finset.sum_ite_eq' Finset.univ a, if_pos (Finset.mem_univ _)]
  · intro k
    rw [select_apply]
    show Scalar.select (IntOp.cmpi .eq (iota .tc S64x16 32 [1] iota_S64x16_d1_w32 (ix2 n k)) (broadcastTo S64x16 v29 broadcasts_S64x1_S64x16 (ix2 n k)))
      _ (Ideal.ofBits .f32 0x00000000#32) = _
    rw [lane_apply, spread_apply, hv, lane_eq, select_ofBool, Ideal.ofBits_zero_f32]

theorem pay8_apply (hl : ∀ k, k1_pay3 p w b (ix2 n k) = l k) : k1_pay8 p w b (ix2 n 0) = prob l (first l) := by
  unfold k1_pay8
  exact (picked_apply (first l) _ (pay5_apply hl) _).trans (pay7_apply hl _)

/-- Two columns side by side. -/
theorem pair_apply {α : Type} (x y : S64x1.Idx → α) (j : Fin 2) :
    concatenate S64x2 1 [⟨S64x1, x⟩, ⟨S64x1, y⟩] concatenates_S64x1_S64x1_S64x2_d1 (ix2 n j) = if j = 0 then x (ix2 n 0) else y (ix2 n 0) := by
  match j with
  | 0 => exact concatenate_pair_apply_left 1 x y concatenates_S64x1_S64x1_S64x2_d1 (ix2 n (0 : Fin 2)) rfl (ix2 n 0) (fun a => match a with | ⟨0, _⟩ => rfl | ⟨1, _⟩ => rfl)
  | 1 => exact concatenate_pair_apply_right 1 x y concatenates_S64x1_S64x1_S64x2_d1 (ix2 n (1 : Fin 2)) rfl rfl (ix2 n 0) (fun a => match a with | ⟨0, _⟩ => fun _ => rfl | ⟨1, _⟩ => fun h => absurd rfl h) rfl

theorem indices_apply (hl : ∀ k, k1_pay3 p w b (ix2 n k) = l k) (j : Fin 2) :
    k1_pay2 (k1_pay5 p w b) (k1_pay6 p w b) (ix2 n j) = BitVec.ofNat 32 (pick l j).val := by
  unfold k1_pay2
  refine (pair_apply _ _ j).trans ?_
  rw [pay5_apply hl, pay6_apply hl]
  match j with
  | 0 => rfl
  | 1 => rfl

theorem weights_apply (hl : ∀ k, k1_pay3 p w b (ix2 n k) = l k) (hr : ∀ k, Math.Real (l k)) (j : Fin 2) :
    k1_pay1 (iota .tc S64x16 32 [1] iota_S64x16_d1_w32) (k1_pay6 p w b) (k1_pay7 p w b) (k1_pay8 p w b) (ix2 n j) = weight l j := by
  unfold k1_pay1
  have h2 := (picked_apply (second l) _ (pay6_apply hl) (k1_pay7 p w b)).trans (pay7_apply hl _)
  refine (pair_apply _ _ j).trans ?_
  rw [← weight_eq hr, mulf_apply, mulf_apply, divf_apply, addf_apply, addf_apply, h2, pay8_apply hl]
  rw [show broadcast S64x1 (Scalar.ofBits (F := Ideal) .f32 0x3F800000#32) (ix2 n 0) = (1 : EReal) from Ideal.ofBits_one_f32]
  match j with
  | 0 => rfl
  | 1 => rfl

end Cert.KernelIdeal.Route
-- ==== Proof.Arrays.Results.lean ====
/- What the kernel leaves in its three results, read at an index: the model's logits, picked lanes and weights. -/
module

public import proofs.«01_k».proof.Proof.Arrays.Pooled
public import proofs.«01_k».proof.Proof.Arrays.Route

@[expose] public section

noncomputable section

namespace Cert.KernelIdeal.Arrays

open Cert.KernelIdeal Cert.KernelIdeal.Gen Cert.Math
open Idealize.ShloMosaic Idealize.ShloMosaic.TcCoe Idealize.SL.Sem Idealize.ShloMosaic.ValueIdx
open Idealize.ShloMosaic.Pipeline (Dat Cfg Window)

theorem whole0 (x : Vec Ideal S64x24 .f32) : View.ld x r1_0 = x :=
  funext fun i => congrArg x (funext fun a => Fin.ext (match a with
    | ⟨0, _⟩ => by show 0 + 1 * (i 0).val = (i 0).val; omega
    | ⟨1, _⟩ => by show 0 + 1 * (i 1).val = (i 1).val; omega))
theorem whole1 (x : Vec Ideal S24x16 .f32) : View.ld x r1_1 = x :=
  funext fun i => congrArg x (funext fun a => Fin.ext (match a with
    | ⟨0, _⟩ => by show 0 + 1 * (i 0).val = (i 0).val; omega
    | ⟨1, _⟩ => by show 0 + 1 * (i 1).val = (i 1).val; omega))
theorem whole2 (x : Vec Ideal S1x16 .f32) : View.ld x r1_2 = x :=
  funext fun i => congrArg x (funext fun a => Fin.ext (match a with
    | ⟨0, _⟩ => by show 0 + 1 * (i 0).val = (i 0).val; omega
    | ⟨1, _⟩ => by show 0 + 1 * (i 1).val = (i 1).val; omega))

theorem emb3 (n : Fin 64) (j : Fin 2) : r1_3.emb (ix2 (n0 := 64) (n1 := 2) n j) = ix2 (n0 := 64) (n1 := 2) n j :=
  funext fun a => Fin.ext (match a with
    | ⟨0, _⟩ => by show 0 + 1 * n.val = n.val; omega
    | ⟨1, _⟩ => by show 0 + 1 * j.val = j.val; omega)
theorem emb4 (n : Fin 64) (k : Fin 16) : r1_4.emb (ix2 (n0 := 64) (n1 := 16) n k) = ix2 (n0 := 64) (n1 := 16) n k :=
  funext fun a => Fin.ext (match a with
    | ⟨0, _⟩ => by show 0 + 1 * n.val = n.val; omega
    | ⟨1, _⟩ => by show 0 + 1 * k.val = k.val; omega)

theorem out_weights (p : Vec Ideal S64x24 .f32) (w : Vec Ideal S24x16 .f32) (b : Vec Ideal S1x16 .f32) (n : Fin 64) (j : Fin 2) :
    out1_3 p w b (ix2 (n0 := 64) (n1 := 2) n j)
      = k1_pay1 (iota .tc S64x16 32 [1] iota_S64x16_d1_w32) (k1_pay6 p w b) (k1_pay7 p w b) (k1_pay8 p w b) (ix2 (n0 := 64) (n1 := 2) n j) := by
  unfold out1_3 k1_pay9
  rw [whole0, whole1, whole2]
  refine Eq.trans ?_ (View.canon_cons_emb r1_3 _ [] (ix2 (n0 := 64) (n1 := 2) n j))
  rw [emb3]

theorem out_indices (p : Vec Ideal S64x24 .f32) (w : Vec Ideal S24x16 .f32) (b : Vec Ideal S1x16 .f32) (n : Fin 64) (j : Fin 2) :
    out1_4 p w b (ix2 (n0 := 64) (n1 := 2) n j) = k1_pay2 (k1_pay5 p w b) (k1_pay6 p w b) (ix2 (n0 := 64) (n1 := 2) n j) := by
  unfold out1_4 k1_pay9
  rw [whole0, whole1, whole2]
  refine Eq.trans ?_ (View.canon_cons_emb r1_3 _ [] (ix2 (n0 := 64) (n1 := 2) n j))
  rw [emb3]

theorem out_logits (p : Vec Ideal S64x24 .f32) (w : Vec Ideal S24x16 .f32) (b : Vec Ideal S1x16 .f32) (n : Fin 64) (k : Fin 16) :
    out1_5 p w b (ix2 (n0 := 64) (n1 := 16) n k) = k1_pay3 p w b (ix2 (n0 := 64) (n1 := 16) n k) := by
  unfold out1_5
  rw [whole0, whole1, whole2]
  refine Eq.trans ?_ (View.canon_cons_emb r1_4 _ [] (ix2 (n0 := 64) (n1 := 16) n k))
  rw [emb4]

variable (m : (ℓ : Loc nD τ sig) → Buf (Elt Ideal) ℓ) (ρ : Dev nD → PrngReg)

/-- The row of logits of the second region. -/
theorem row_logits (c : Dev nD) (n : Fin 64) (k : Fin 16) :
    k1_pay3 (F := Ideal) (Run.V3 m ρ c main_v21) (Run.V3 m ρ c main_v22) (Run.V3 m ρ c main_v23) (ix2 (n0 := 64) (n1 := 16) n k) = logit (args m c) n k := by
  refine (Route.pay3_apply _ _ _ n k).trans ?_
  unfold logit
  exact congrArg₂ (fun u v : EReal => u + v) (Finset.sum_congr rfl fun r _ => congrArg₂ (fun u v : EReal => u * v)
    (enter_pooled m ρ c n r) (enter_fc m ρ c r k)) (enter_bias m ρ c k)

theorem res_logits (c : Dev nD) (n : Fin 64) (k : Fin 16) :
    Run.W4 m ρ c (Proc.devRef .tc main_v24_2) (ix2 (n0 := 64) (n1 := 16) n k) = logit (args m c) n k :=
  (congrFun ((Run.W4_arr m ρ c 5).trans (arr_logits (Run.V3 m ρ) c)) _).trans
    ((out_logits _ _ _ n k).trans (row_logits m ρ c n k))

theorem res_indices (c : Dev nD) (n : Fin 64) (j : Fin 2) :
    Run.W4 m ρ c (Proc.devRef .tc main_v24_1) (ix2 (n0 := 64) (n1 := 2) n j) = BitVec.ofNat 32 (pick (logit (args m c) n) j).val :=
  (congrFun ((Run.W4_arr m ρ c 4).trans (arr_indices (Run.V3 m ρ) c)) _).trans
    ((out_indices _ _ _ n j).trans (Route.indices_apply (row_logits m ρ c n) j))

theorem res_weights (c : Dev nD) (hA : Tame (args m c)) (n : Fin 64) (j : Fin 2) :
    Run.W4 m ρ c (Proc.devRef .tc main_v24_0) (ix2 (n0 := 64) (n1 := 2) n j) = weight (logit (args m c) n) j :=
  (congrFun ((Run.W4_arr m ρ c 3).trans (arr_weights (Run.V3 m ρ) c)) _).trans
    ((out_weights _ _ _ n j).trans (Route.weights_apply (row_logits m ρ c n) (logit_real hA n) j))

end Cert.KernelIdeal.Arrays
-- ==== Proof.Ref.Conv.lean ====
/- The reference's convolution read at an index: the model's nine products. -/
module

public import proofs.«01_k».proof.Proof.Gen.ReferenceIdeal.Read
public import proofs.«01_k».proof.Proof.Math.Model

@[expose] public section

noncomputable section

namespace Cert.ReferenceIdeal.Ref

open Cert.ReferenceIdeal Cert.ReferenceIdeal.Gen Cert.ReferenceIdeal.Read
open Idealize.ShloMosaic Idealize.ShloMosaic.ValueIdx
open Cert.Math

variable (A : Args)

theorem border (i : S_.Idx) : val_main_call0_v0 (F := Ideal) i = (0 : EReal) := by
  show (((0#32 : BitVec 32).toInt : ℝ) : EReal) = 0
  norm_num

theorem padded_apply (n : Fin 64) (c : Fin 384) (r q : Fin 30) :
    val_main_v0 (F := Ideal) A.x (ix4 n c r q) = image A n c r.val q.val := by
  unfold val_main_v0 pad image
  by_cases h : (1 ≤ r.val ∧ r.val ≤ 28) ∧ (1 ≤ q.val ∧ q.val ≤ 28)
  · rw [dif_pos h, dif_pos]
    · refine congrArg A.x (funext fun a => Fin.ext ?_)
      match a with
      | ⟨0, _⟩ => show (n.val - 0) / (0 + 1) = n.val; omega
      | ⟨1, _⟩ => show (c.val - 0) / (0 + 1) = c.val; omega
      | ⟨2, _⟩ => show (r.val - 1) / (0 + 1) = r.val - 1; omega
      | ⟨3, _⟩ => show (q.val - 1) / (0 + 1) = q.val - 1; omega
    · intro a
      have h1 := h.1; have h2 := h.2
      have hn := n.isLt; have hc := c.isLt
      match a with
      | ⟨0, _⟩ => exact ⟨by show 0 ≤ n.val; omega, by show (n.val - 0) % (0 + 1) = 0; omega, by show (n.val - 0) / (0 + 1) < 64; omega⟩
      | ⟨1, _⟩ => exact ⟨by show 0 ≤ c.val; omega, by show (c.val - 0) % (0 + 1) = 0; omega, by show (c.val - 0) / (0 + 1) < 384; omega⟩
      | ⟨2, _⟩ => exact ⟨by show 1 ≤ r.val; omega, by show (r.val - 1) % (0 + 1) = 0; omega, by show (r.val - 1) / (0 + 1) < 28; omega⟩
      | ⟨3, _⟩ => exact ⟨by show 1 ≤ q.val; omega, by show (q.val - 1) % (0 + 1) = 0; omega, by show (q.val - 1) / (0 + 1) < 28; omega⟩
  · rw [dif_neg h, dif_neg]
    · exact border _
    · intro hin
      have h2 : 1 ≤ r.val ∧ (r.val - 1) % (0 + 1) = 0 ∧ (r.val - 1) / (0 + 1) < 28 := hin 2
      have h3 : 1 ≤ q.val ∧ (q.val - 1) % (0 + 1) = 0 ∧ (q.val - 1) / (0 + 1) < 28 := hin 3
      omega

theorem pick (e d : Nat) (h : S64x384x30x30.SlicesBy ![0, 0, e, d] ![1, 1, 2, 2] S64x384x14x14) (he : e < 3) (hd : d < 3)
    (n : Fin 64) (c : Fin 384) (i a : Fin 14) :
    Host.slice S64x384x14x14 ![0, 0, e, d] ![1, 1, 2, 2] (val_main_v0 (F := Ideal) A.x) h (ix4 n c i a)
      = image A n c (2 * i.val + e) (2 * a.val + d) := by
  rw [← padded_apply A n c ⟨2 * i.val + e, by omega⟩ ⟨2 * a.val + d, by omega⟩]
  unfold Host.slice
  refine congrArg (val_main_v0 (F := Ideal) A.x) (funext fun b => Fin.ext ?_)
  match b with
  | ⟨0, _⟩ => show 0 + 1 * n.val = n.val; omega
  | ⟨1, _⟩ => show 0 + 1 * c.val = c.val; omega
  | ⟨2, _⟩ => show e + 2 * i.val = 2 * i.val + e; omega
  | ⟨3, _⟩ => show d + 2 * a.val = 2 * a.val + d; omega

theorem tap0 (n : Fin 64) (c : Fin 384) (i a : Fin 14) : val_main_v7 (F := Ideal) A.x A.w (ix4 n c i a)
    = image A n c (2 * i.val + 0) (2 * a.val + 0) * kernel A c 0 0 := by
  rw [val_main_v7_apply, val_main_v6_apply, val_main_v5_apply, val_main_v4_apply, val_main_v3_apply]
  unfold kernel
  rw [dif_pos ⟨by decide, by decide⟩]
  refine congrArg₂ (fun u v : EReal => u * v) (pick A 0 0 _ (by decide) (by decide) n c i a) (congrArg A.w (funext fun b => Fin.ext ?_))
  match b with
  | ⟨0, _⟩ => show c.val / 1 = c.val; omega
  | ⟨1, _⟩ => rfl
  | ⟨2, _⟩ => rfl
  | ⟨3, _⟩ => rfl

theorem tap1 (n : Fin 64) (c : Fin 384) (i a : Fin 14) : val_main_v14 (F := Ideal) A.x A.w (ix4 n c i a)
    = image A n c (2 * i.val + 0) (2 * a.val + 1) * kernel A c 0 1 := by
  rw [val_main_v14_apply, val_main_v13_apply, val_main_v12_apply, val_main_v11_apply, val_main_v10_apply]
  unfold kernel
  rw [dif_pos ⟨by decide, by decide⟩]
  refine congrArg₂ (fun u v : EReal => u * v) (pick A 0 1 _ (by decide) (by decide) n c i a) (congrArg A.w (funext fun b => Fin.ext ?_))
  match b with
  | ⟨0, _⟩ => show c.val / 1 = c.val; omega
  | ⟨1, _⟩ => rfl
  | ⟨2, _⟩ => rfl
  | ⟨3, _⟩ => rfl

theorem tap2 (n : Fin 64) (c : Fin 384) (i a : Fin 14) : val_main_v21 (F := Ideal) A.x A.w (ix4 n c i a)
    = image A n c (2 * i.val + 0) (2 * a.val + 2) * kernel A c 0 2 := by
  rw [val_main_v21_apply, val_main_v20_apply, val_main_v19_apply, val_main_v18_apply, val_main_v17_apply]
  unfold kernel
  rw [dif_pos ⟨by decide, by decide⟩]
  refine congrArg₂ (fun u v : EReal => u * v) (pick A 0 2 _ (by decide) (by decide) n c i a) (congrArg A.w (funext fun b => Fin.ext ?_))
  match b with
  | ⟨0, _⟩ => show c.val / 1 = c.val; omega
  | ⟨1, _⟩ => rfl
  | ⟨2, _⟩ => rfl
  | ⟨3, _⟩ => rfl

theorem tap3 (n : Fin 64) (c : Fin 384) (i a : Fin 14) : val_main_v28 (F := Ideal) A.x A.w (ix4 n c i a)
    = image A n c (2 * i.val + 1) (2 * a.val + 0) * kernel A c 1 0 := by
  rw [val_main_v28_apply, val_main_v27_apply, val_main_v26_apply, val_main_v25_apply, val_main_v24_apply]
  unfold kernel
  rw [dif_pos ⟨by decide, by decide⟩]
  refine congrArg₂ (fun u v : EReal => u * v) (pick A 1 0 _ (by decide) (by decide) n c i a) (congrArg A.w (funext fun b => Fin.ext ?_))
  match b with
  | ⟨0, _⟩ => show c.val / 1 = c.val; omega
  | ⟨1, _⟩ => rfl
  | ⟨2, _⟩ => rfl
  | ⟨3, _⟩ => rfl

theorem tap4 (n : Fin 64) (c : Fin 384) (i a : Fin 14) : val_main_v35 (F := Ideal) A.x A.w (ix4 n c i a)
    = image A n c (2 * i.val + 1) (2 * a.val + 1) * kernel A c 1 1 := by
  rw [val_main_v35_apply, val_main_v34_apply, val_main_v33_apply, val_main_v32_apply, val_main_v31_apply]
  unfold kernel
  rw [dif_pos ⟨by decide, by decide⟩]
  refine congrArg₂ (fun u v : EReal => u * v) (pick A 1 1 _ (by decide) (by decide) n c i a) (congrArg A.w (funext fun b => Fin.ext ?_))
  match b with
  | ⟨0, _⟩ => show c.val / 1 = c.val; omega
  | ⟨1, _⟩ => rfl
  | ⟨2, _⟩ => rfl
  | ⟨3, _⟩ => rfl

theorem tap5 (n : Fin 64) (c : Fin 384) (i a : Fin 14) : val_main_v42 (F := Ideal) A.x A.w (ix4 n c i a)
    = image A n c (2 * i.val + 1) (2 * a.val + 2) * kernel A c 1 2 := by
  rw [val_main_v42_apply, val_main_v41_apply, val_main_v40_apply, val_main_v39_apply, val_main_v38_apply]
  unfold kernel
  rw [dif_pos ⟨by decide, by decide⟩]
  refine congrArg₂ (fun u v : EReal => u * v) (pick A 1 2 _ (by decide) (by decide) n c i a) (congrArg A.w (funext fun b => Fin.ext ?_))
  match b with
  | ⟨0, _⟩ => show c.val / 1 = c.val; omega
  | ⟨1, _⟩ => rfl
  | ⟨2, _⟩ => rfl
  | ⟨3, _⟩ => rfl

theorem tap6 (n : Fin 64) (c : Fin 384) (i a : Fin 14) : val_main_v49 (F := Ideal) A.x A.w (ix4 n c i a)
    = image A n c (2 * i.val + 2) (2 * a.val + 0) * kernel A c 2 0 := by
  rw [val_main_v49_apply, val_main_v48_apply, val_main_v47_apply, val_main_v46_apply, val_main_v45_apply]
  unfold kernel
  rw [dif_pos ⟨by decide, by decide⟩]
  refine congrArg₂ (fun u v : EReal => u * v) (pick A 2 0 _ (by decide) (by decide) n c i a) (congrArg A.w (funext fun b => Fin.ext ?_))
  match b with
  | ⟨0, _⟩ => show c.val / 1 = c.val; omega
  | ⟨1, _⟩ => rfl
  | ⟨2, _⟩ => rfl
  | ⟨3, _⟩ => rfl

theorem tap7 (n : Fin 64) (c : Fin 384) (i a : Fin 14) : val_main_v56 (F := Ideal) A.x A.w (ix4 n c i a)
    = image A n c (2 * i.val + 2) (2 * a.val + 1) * kernel A c 2 1 := by
  rw [val_main_v56_apply, val_main_v55_apply, val_main_v54_apply, val_main_v53_apply, val_main_v52_apply]
  unfold kernel
  rw [dif_pos ⟨by decide, by decide⟩]
  refine congrArg₂ (fun u v : EReal => u * v) (pick A 2 1 _ (by decide) (by decide) n c i a) (congrArg A.w (funext fun b => Fin.ext ?_))
  match b with
  | ⟨0, _⟩ => show c.val / 1 = c.val; omega
  | ⟨1, _⟩ => rfl
  | ⟨2, _⟩ => rfl
  | ⟨3, _⟩ => rfl

theorem tap8 (n : Fin 64) (c : Fin 384) (i a : Fin 14) : val_main_v63 (F := Ideal) A.x A.w (ix4 n c i a)
    = image A n c (2 * i.val + 2) (2 * a.val + 2) * kernel A c 2 2 := by
  rw [val_main_v63_apply, val_main_v62_apply, val_main_v61_apply, val_main_v60_apply, val_main_v59_apply]
  unfold kernel
  rw [dif_pos ⟨by decide, by decide⟩]
  refine congrArg₂ (fun u v : EReal => u * v) (pick A 2 2 _ (by decide) (by decide) n c i a) (congrArg A.w (funext fun b => Fin.ext ?_))
  match b with
  | ⟨0, _⟩ => show c.val / 1 = c.val; omega
  | ⟨1, _⟩ => rfl
  | ⟨2, _⟩ => rfl
  | ⟨3, _⟩ => rfl

/-- The reference's nine products summed are the model's convolution. -/
theorem conv_apply (n : Fin 64) (c : Fin 384) (i a : Fin 14) :
    val_main_v64 (F := Ideal) A.x A.w (ix4 n c i a) = conv A n c i.val a.val := by
  rw [val_main_v64_apply, val_main_v57_apply, val_main_v50_apply, val_main_v43_apply, val_main_v36_apply, val_main_v29_apply, val_main_v22_apply, val_main_v15_apply, val_main_v8_apply,
    tap0, tap1, tap2, tap3, tap4, tap5, tap6, tap7, tap8]
  unfold conv rows
  rw [show val_main_v1 (F := Ideal) (ix4 n c i a) = (0 : EReal) from Ideal.ofBits_zero_f32]
  rfl

end Cert.ReferenceIdeal.Ref
-- ==== Proof.Ref.Logits.lean ====
/- The reference's logits read at an index: the model's, at tame arguments. -/
module

public import proofs.«01_k».proof.Proof.Ref.Conv
public import proofs.«01_k».proof.Proof.Math.Norm
public import Idealize.ShloMosaic.Lib.IdealHost
public import Idealize.ShloMosaic.Lib.Pointwise.Reduce

@[expose] public section

noncomputable section

namespace Cert.ReferenceIdeal.Ref

open Cert.ReferenceIdeal Cert.ReferenceIdeal.Gen Cert.ReferenceIdeal.Read
open Idealize.ShloMosaic hiding ix1 ix2 ix3 ix4
open Idealize.ShloMosaic.ValueIdx
open Cert.Math

variable (A : Args)

theorem one_eq : FloatOps.ofBits (F := Ideal) .f32 0x3F800000#32 = (1 : EReal) := Ideal.ofBits_one_f32

theorem normed_apply (n : Fin 64) (c : Fin 384) (i a : Fin 14) :
    val_main_v79 (F := Ideal) A.x A.w A.γ A.β A.μ A.v (ix4 n c i a) = normed A n c i.val a.val := by
  rw [val_main_v79_apply, val_main_v76_apply, val_main_v73_apply, val_main_v67_apply, conv_apply, val_main_v66_apply, val_main_v65_apply,
    val_main_v72_apply, val_main_v71_apply, val_main_v70_apply, val_main_v68_apply, val_main_v75_apply, val_main_v74_apply,
    val_main_v78_apply, val_main_v77_apply]
  have h0 : idx_main_v65 (idx_main_v66 (ix4 n c i a)) = ix1 c := funext fun b => match b with | ⟨0, _⟩ => rfl
  have h1 : idx_main_v68 (idx_main_v72 (ix4 n c i a)) = ix1 c := funext fun b => match b with | ⟨0, _⟩ => rfl
  have h2 : idx_main_v74 (idx_main_v75 (ix4 n c i a)) = ix1 c := funext fun b => match b with | ⟨0, _⟩ => rfl
  have h3 : idx_main_v77 (idx_main_v78 (ix4 n c i a)) = ix1 c := funext fun b => match b with | ⟨0, _⟩ => rfl
  rw [h0, h1, h2, h3]
  rfl

theorem gate_apply (n : Fin 64) (c : Fin 384) (i a : Fin 14) :
    val_main_v86 (F := Ideal) A.x A.w A.γ A.β A.μ A.v (ix4 n c i a) = gate (normed A n c i.val a.val) := by
  rw [val_main_v86_apply, val_main_v85_apply, val_main_v83_apply, val_main_v81_apply, val_main_v80_apply, normed_apply,
    show val_main_v84 (F := Ideal) (ix4 n c i a) = (1 : EReal) from one_eq,
    show val_main_v82 (F := Ideal) (ix4 n c i a) = (1 : EReal) from one_eq]
  rfl

theorem mix_apply (hA : Tame A) (n : Fin 64) (r : Fin 24) (i a : Fin 14) :
    val_main_v89 (F := Ideal) A.x A.w A.γ A.β A.μ A.v A.pw (ix4 n r i a) = mix A n r i.val a.val := by
  rw [val_main_v89_apply, val_main_v88_apply]
  unfold mix
  refine Finset.sum_congr rfl fun c _ => ?_
  rw [mul_comm]
  refine congrArg₂ (fun u v : EReal => u * v) ?_ ?_
  · rw [← normed_eq hA]
    refine Eq.trans (congrArg _ ?_) (gate_apply A n c i a)
    exact funext fun b => match b with | ⟨0, _⟩ => rfl | ⟨1, _⟩ => rfl | ⟨2, _⟩ => rfl | ⟨3, _⟩ => rfl
  · rw [val_main_v87_apply]
    refine congrArg A.pw (funext fun b => Fin.ext ?_)
    have hr := r.isLt
    have hc := c.isLt
    match b with
    | ⟨0, _⟩ => show (r.val * 384 + c.val) / 384 = r.val; omega
    | ⟨1, _⟩ => show (r.val * 384 + c.val) / 1 % 384 = c.val; omega
    | ⟨2, _⟩ => rfl
    | ⟨3, _⟩ => rfl

theorem mixgate_apply (hA : Tame A) (n : Fin 64) (r : Fin 24) (i a : Fin 14) :
    val_main_v96 (F := Ideal) A.x A.w A.γ A.β A.μ A.v A.pw (ix4 n r i a) = gate (mix A n r i.val a.val) := by
  rw [val_main_v96_apply, val_main_v95_apply, val_main_v93_apply, val_main_v91_apply, val_main_v90_apply, mix_apply A hA,
    show val_main_v94 (F := Ideal) (ix4 n r i a) = (1 : EReal) from one_eq,
    show val_main_v92 (F := Ideal) (ix4 n r i a) = (1 : EReal) from one_eq]
  rfl

theorem count_eq : FloatOps.ofBits (F := Ideal) .f32 0x43440000#32 = ((196 : ℝ) : EReal) := by
  show Ideal.ofBits .f32 0x43440000#32 = _
  simp [Ideal.ofBits, Ideal.ieee, -EReal.coe_mul]
  norm_num

theorem pooled_apply (hA : Tame A) (n : Fin 64) (r : Fin 24) :
    val_main_v99 (F := Ideal) A.x A.w A.γ A.β A.μ A.v A.pw (ix2 n r) = pooled A n r := by
  rw [val_main_v99_apply, show val_main_v98 (F := Ideal) (ix2 n r) = ((196 : ℝ) : EReal) from count_eq]
  refine (Ideal.div_coe (by norm_num) _).trans ?_
  unfold pooled
  congr 1
  unfold val_main_v97
  rw [hostReduceAdd_apply]
  refine (Ideal.hostReduceAdd_r4_a23 _ _ _ _).trans ?_
  rw [show val_main_cst_5 (F := Ideal) (Shape.Idx.first h_S_) = (0 : EReal) from Ideal.ofBits_zero_f32, zero_add]
  exact Finset.sum_congr rfl fun i _ => Finset.sum_congr rfl fun a _ => mixgate_apply A hA n r i a

/-- The reference's logits are the model's. -/
theorem logit_apply (hA : Tame A) (n : Fin 64) (k : Fin 16) :
    val_main_v104 (F := Ideal) A.x A.w A.γ A.β A.μ A.v A.pw A.fw A.fb (ix2 n k) = logit A n k := by
  rw [val_main_v104_apply, val_main_v101_apply, val_main_v103_apply, val_main_v102_apply]
  unfold logit
  refine congrArg₂ (fun u v : EReal => u + v) (Finset.sum_congr rfl fun r _ => ?_) ?_
  · refine congrArg₂ (fun u v : EReal => u * v) ?_ ?_
    · refine Eq.trans (congrArg _ ?_) (pooled_apply A hA n r)
      exact funext fun b => match b with | ⟨0, _⟩ => rfl | ⟨1, _⟩ => rfl
    · rw [val_main_v100_apply]
      exact congrArg A.fw (funext fun b => match b with | ⟨0, _⟩ => rfl | ⟨1, _⟩ => rfl)
  · exact congrArg A.fb (funext fun b => match b with | ⟨0, _⟩ => rfl)

end Cert.ReferenceIdeal.Ref
-- ==== Proof.Ref.Pick.lean ====
/- The sort-and-slice and the gather of the reference's tail, each read at an index, over any arrays. -/
module

public import proofs.«01_k».proof.Proof.Gen.ReferenceIdeal
public import proofs.«01_k».proof.Proof.Math.Weights
public import Idealize.ShloMosaic.Lib.IdealHost
public import Idealize.ShloMosaic.Lib.ReduceAll
public import Idealize.ShloMosaic.Lib.Pointwise.Reduce

@[expose] public section

noncomputable section

namespace Cert.ReferenceIdeal.Ref

open Cert.ReferenceIdeal Cert.ReferenceIdeal.Gen
open Idealize.ShloMosaic hiding ix1 ix2 ix3 ix4
open Idealize.ShloMosaic.ValueIdx
open Cert.Math

/-- What a sorted row carries along with it, read at one of its first two positions. -/
theorem carried_apply (x : FVec Ideal S64x16 .f32) (l : Fin 16 → EReal) (n : Fin 64)
    (hx : ∀ k, x (ix2 n k) = l k) (hl : ∀ k, ⊥ < l k) (j : Fin 2)
    (y : IVec S64x16 32) (hy : ∀ k : Fin 16, y (ix2 n k) = BitVec.ofNat 32 k.val)
    (a : Fin 16 → S64x16.Idx) (ha : ∀ k, a k = ix2 n k) (p : Fin 16) (hp : p = j.castLE (by decide)) :
    y (a (sortedFrom (fun k k' : Fin 16 => FloatOps.cmpfTotal (F := Ideal) (φ := .f32) .gt (x (a k)) (x (a k')) == 1#1) p))
      = BitVec.ofNat 32 (pick l j).val := by
  have hb : (fun k k' : Fin 16 => FloatOps.cmpfTotal (F := Ideal) (φ := .f32) .gt (x (a k)) (x (a k')) == 1#1)
      = fun k k' : Fin 16 => decide (l k' < l k) := by
    funext k k'
    rw [ha, ha, hx, hx]
    show (BitVec.ofBool (decide (l k' < l k)) == 1#1) = _
    cases decide (l k' < l k) <;> rfl
  rw [hb, hp, sorted_top hl, ha, hy]
  rfl

theorem axis_lt : (1 : Nat) < S64x16.rank := by decide

theorem along_apply (q : S64x16.Idx) (n : Fin 64) (q0 : (q 0).val = n.val) (k : Fin 16) : q.along ⟨1, axis_lt⟩ k = ix2 n k := by
  have h0 : (⟨0, by decide⟩ : Fin S64x16.rank) ≠ ⟨1, axis_lt⟩ := fun h => absurd (congrArg Fin.val h) (by show (0 : Nat) ≠ 1; decide)
  funext a
  match a with
  | ⟨0, _⟩ => exact (Function.update_of_ne h0 _ q).trans (Fin.ext q0)
  | ⟨1, _⟩ => exact Function.update_self _ _ _

theorem sort2_apply (x : FVec Ideal S64x16 .f32) (l : Fin 16 → EReal) (n : Fin 64)
    (hx : ∀ k, x (ix2 n k) = l k) (hl : ∀ k, ⊥ < l k) (j : Fin 2)
    (y : IVec S64x16 32) (hy : ∀ k : Fin 16, y (ix2 n k) = BitVec.ofNat 32 k.val)
    (q : S64x16.Idx) (q0 : (q 0).val = n.val) (q1 : (q 1).val = j.val) :
    (Host.sort2 S64x16 1 (fun l r : Ideal .f32 × BitVec 32 => FloatOps.cmpfTotal (F := Ideal) (φ := .f32) .gt l.1 r.1) x y).2 q
      = BitVec.ofNat 32 (pick l j).val := by
  unfold Host.sort2
  rw [dif_pos axis_lt]
  exact carried_apply x l n hx hl j y hy (fun k => q.along ⟨1, axis_lt⟩ k) (along_apply q n q0) _ (Fin.ext q1)

theorem slice_apply (y : IVec S64x16 32) (n : Fin 64) (j : Fin 2) :
    extractStridedSlice S64x2 (fun _ => 0) y sliceFits_S64x16_S64x2 (ix2 n j) = y (ix2 n (j.castLE (by decide))) :=
  congrArg y (funext fun a => Fin.ext (match a with
    | ⟨0, _⟩ => by show 0 + n.val = n.val; omega
    | ⟨1, _⟩ => by show 0 + j.val = j.val; omega))

/-- The indices of the two greatest of a row are the picked positions. -/
theorem topK_apply (x : FVec Ideal S64x16 .f32) (l : Fin 16 → EReal) (n : Fin 64)
    (hx : ∀ k, x (ix2 n k) = l k) (hl : ∀ k, ⊥ < l k) (j : Fin 2) :
    (Host.topK S64x2 1 (FloatOps.cmpfTotal .gt) x sliceFits_S64x16_S64x2).2 (ix2 n j) = BitVec.ofNat 32 (pick l j).val := by
  unfold Host.topK
  dsimp only
  rw [slice_apply]
  exact sort2_apply x l n hx hl j _ (fun k => rfl) _ rfl rfl

/-- The gather along a row reads the row at the given lane. -/
theorem gather_apply {α : Type} (x : S64x16.Idx → α) (idx : IVec S64x2x1 32) (n : Fin 64) (j : Fin 2) (k : Fin 16)
    (hk : idx (ix3 n j 0) = BitVec.ofNat 32 k.val) :
    Host.gather gather_S64x16_S64x2x1_S64x2_n_1_0_0_1_2_11 x idx (ix2 n j) = x (ix2 n k) := by
  unfold Host.gather
  refine congrArg x (funext fun a => Fin.ext ?_)
  show gather_S64x16_S64x2x1_S64x2_n_1_0_0_1_2_11.start (ix2 n j) idx a + gather_S64x16_S64x2x1_S64x2_n_1_0_0_1_2_11.batchCoord (ix2 n j) a
      + gather_S64x16_S64x2x1_S64x2_n_1_0_0_1_2_11.offCoord (ix2 n j) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S64x16_S64x2x1_S64x2_n_1_0_0_1_2_11.operandBatchingDims from List.mem_singleton.mpr rfl)]
    show 0 + n.val + 0 = n.val
    omega
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gather_S64x16_S64x2x1_S64x2_n_1_0_0_1_2_11.startIndexMap from List.mem_singleton.mpr rfl)]
    have hs : gather_S64x16_S64x2x1_S64x2_n_1_0_0_1_2_11.siIdx (ix2 n j)
        ⟨gather_S64x16_S64x2x1_S64x2_n_1_0_0_1_2_11.startIndexMap.idxOf (1 : Fin 2), List.idxOf_lt_length_iff.2 (List.mem_singleton.mpr rfl)⟩
        = ix3 n j (0 : Fin 1) := funext fun b => Fin.ext (match b with
      | ⟨0, _⟩ => rfl
      | ⟨1, _⟩ => rfl
      | ⟨2, _⟩ => rfl)
    rw [hs, hk, toInt_lane]
    have := k.isLt
    show min ((k.val : Int)).toNat 15 + 0 + 0 = k.val
    omega

/-- The maximum over a row, folded from minus infinity, is the row's value at its first maximum. -/
theorem rowmax_apply (x : FVec Ideal S64x16 .f32) (c : FVec Ideal S_ .f32) (hc : c (Shape.Idx.first h_S_) = (⊥ : EReal))
    (l : Fin 16 → EReal) (n : Fin 64) (hx : ∀ k, x (ix2 n k) = l k) :
    Host.reduce (FloatOps.maximumf (F := Ideal) (φ := .f32)) x c reducesTo_S64x16_S64_d1 h_S_ (ix1 n) = l (first l) := by
  refine (Host.reduce_eq_fold (max : EReal → EReal → EReal) x c reducesTo_S64x16_S64_d1 h_S_ (ix1 n)).trans ?_
  refine (Shape.ReducesTo.fold_fiber_r2_a1 reducesTo_S64x16_S64_d1 (ix1 n) _ _ x).trans ?_
  rw [hc]
  refine Eq.trans ?_ (fold_top l)
  exact Finset.fold_congr fun k _ => (congrArg x (funext fun a => match a with | ⟨0, _⟩ => rfl | ⟨1, _⟩ => rfl)).trans (hx k)

end Cert.ReferenceIdeal.Ref
-- ==== Proof.Ref.Route.lean ====
/- The reference's picked lanes and weights read at an index: the model's, at tame arguments. -/
module

public import proofs.«01_k».proof.Proof.Ref.Logits
public import proofs.«01_k».proof.Proof.Ref.Pick

@[expose] public section

noncomputable section

namespace Cert.ReferenceIdeal.Ref

open Cert.ReferenceIdeal Cert.ReferenceIdeal.Gen Cert.ReferenceIdeal.Read
open Idealize.ShloMosaic hiding ix1 ix2 ix3 ix4
open Idealize.ShloMosaic.ValueIdx
open Cert.Math

variable (A : Args)

theorem low_lt {e : EReal} (h : Math.Real e) : ⊥ < e := by
  obtain ⟨r, rfl⟩ := h
  exact EReal.bot_lt_coe r

/-- The reference's two greatest lanes are the model's. -/
theorem indices_apply (hA : Tame A) (n : Fin 64) (j : Fin 2) :
    val_main_indices (F := Ideal) A.x A.w A.γ A.β A.μ A.v A.pw A.fw A.fb (ix2 n j) = BitVec.ofNat 32 (Math.pick (logit A n) j).val := by
  unfold val_main_indices
  exact topK_apply _ (logit A n) n (logit_apply A hA n) (fun k => low_lt (logit_real hA n k)) j

theorem low_eq : FloatOps.ofBits (F := Ideal) .f32 0xFF800000#32 = (⊥ : EReal) := by
  show Ideal.ofBits .f32 0xFF800000#32 = ⊥
  simp [Ideal.ofBits, Ideal.ieee]

theorem top_apply (hA : Tame A) (n : Fin 64) :
    val_main_v107 (F := Ideal) A.x A.w A.γ A.β A.μ A.v A.pw A.fw A.fb (ix1 n) = logit A n (first (logit A n)) := by
  rw [val_main_v107_apply, show val_main_v106 (F := Ideal) (ix1 n) = (⊥ : EReal) from low_eq]
  refine (bot_sup_eq _).trans ?_
  unfold val_main_v105
  exact rowmax_apply _ _ low_eq (logit A n) n (logit_apply A hA n)

theorem exp_apply (hA : Tame A) (n : Fin 64) (k : Fin 16) :
    val_main_v111 (F := Ideal) A.x A.w A.γ A.β A.μ A.v A.pw A.fw A.fb (ix2 n k)
      = Ideal.exp (logit A n k - logit A n (first (logit A n))) := by
  rw [val_main_v111_apply, val_main_v110_apply, logit_apply A hA, val_main_v109_apply, val_main_v108_apply]
  have h : idx_main_v108 (idx_main_v109 (ix2 n k)) = ix1 n := funext fun b => match b with | ⟨0, _⟩ => rfl
  rw [h, top_apply A hA]
  rfl

/-- The softmax of the logits. -/
theorem prob_apply (hA : Tame A) (n : Fin 64) (k : Fin 16) :
    val_main_v115 (F := Ideal) A.x A.w A.γ A.β A.μ A.v A.pw A.fw A.fb (ix2 n k) = prob (logit A n) k := by
  rw [val_main_v115_apply, exp_apply A hA, val_main_v114_apply, val_main_v113_apply, val_main_v112_apply,
    show val_main_cst_9 (F := Ideal) (Shape.Idx.first h_S_) = (0 : EReal) from Ideal.ofBits_zero_f32, zero_add]
  unfold prob
  refine congrArg (fun u : EReal => Ideal.div (Ideal.exp (logit A n k - logit A n (first (logit A n)))) u) (Finset.sum_congr rfl fun q _ => ?_)
  have h : idx_main_v112 (idx_main_v113 (idx_main_v114 (ix2 n k))) q = ix2 n q := funext fun b => match b with
    | ⟨0, _⟩ => rfl
    | ⟨1, _⟩ => rfl
  rw [h, exp_apply A hA]

theorem lane_ops : ∀ k : Fin 16, IntOp.cmpi .slt (BitVec.ofNat 32 k.val) 0#32 = 0#1 ∧ IntOp.cmpi .sge (BitVec.ofNat 32 k.val) 0#32 = 1#1
    ∧ IntOp.cmpi .sle (BitVec.ofNat 32 k.val) 15#32 = 1#1 := by decide

/-- The gather's start indices are the picked lanes: none is negative. -/
theorem start_apply (hA : Tame A) (n : Fin 64) (j : Fin 2) :
    val_main_call1_v5 (F := Ideal) A.x A.w A.γ A.β A.μ A.v A.pw A.fw A.fb (ix3 n j 0) = BitVec.ofNat 32 (Math.pick (logit A n) j).val := by
  rw [val_main_call1_v5_apply]
  have h : idx_main_call1_v5 (ix3 (n2 := 1) n j 0) = ix2 n j := by
    have hn := n.isLt
    have hj := j.isLt
    refine funext fun b => Fin.ext ?_
    match b with
    | ⟨0, _⟩ => show ((n.val * 2 + j.val) * 1 + 0) / 2 = n.val; omega
    | ⟨1, _⟩ => show ((n.val * 2 + j.val) * 1 + 0) % 2 = j.val; omega
  rw [h, val_main_call1_v4_apply, val_main_call1_v1_apply, indices_apply A hA,
    show val_main_call1_v0 (F := Ideal) (ix2 n j) = 0#32 from rfl, (lane_ops _).1]
  rfl

theorem inside_apply (hA : Tame A) (n : Fin 64) (j : Fin 2) :
    val_main_call1_v12 (F := Ideal) A.x A.w A.γ A.β A.μ A.v A.pw A.fw A.fb (ix2 n j) = 1#1 := by
  unfold val_main_call1_v12
  refine Host.reduce_andi_one _ _ _ _ _ rfl fun i => ?_
  have hi : i = ix3 (n0 := 64) (n1 := 2) (n2 := 1) (i 0) (i 1) 0 := funext fun b => match b with
    | ⟨0, _⟩ => rfl
    | ⟨1, _⟩ => rfl
    | ⟨2, _⟩ => Fin.ext (by have h : (i 2).val < 1 := (i 2).isLt; show (i 2).val = 0; omega)
  rw [hi, val_main_call1_v11_apply, val_main_call1_v7_apply, val_main_call1_v10_apply]
  have hs := start_apply A hA (i 0) (i 1)
  rw [hs]
  have hb := lane_ops (Math.pick (logit A (i 0)) (i 1))
  exact congrArg₂ IntOp.andi hb.2.1 hb.2.2

/-- The picked softmax values. -/
theorem picked_apply (hA : Tame A) (n : Fin 64) (j : Fin 2) :
    val_main_v116 (F := Ideal) A.x A.w A.γ A.β A.μ A.v A.pw A.fw A.fb (ix2 n j) = prob (logit A n) (Math.pick (logit A n) j) := by
  rw [val_main_v116_apply, inside_apply A hA]
  show val_main_call1_v13 (F := Ideal) A.x A.w A.γ A.β A.μ A.v A.pw A.fw A.fb (ix2 n j) = _
  unfold val_main_call1_v13
  exact (gather_apply _ _ n j _ (start_apply A hA n j)).trans (prob_apply A hA n _)

/-- The reference's weights are the model's. -/
theorem weights_apply (hA : Tame A) (n : Fin 64) (j : Fin 2) :
    val_main_v122 (F := Ideal) A.x A.w A.γ A.β A.μ A.v A.pw A.fw A.fb (ix2 n j) = weight (logit A n) j := by
  rw [val_main_v122_apply, picked_apply A hA, val_main_v121_apply, val_main_v120_apply, val_main_v118_apply, val_main_v117_apply,
    show val_main_cst_10 (F := Ideal) (Shape.Idx.first h_S_) = (0 : EReal) from Ideal.ofBits_zero_f32, zero_add]
  have h : ∀ q : Fin 2, idx_main_v117 (idx_main_v118 (idx_main_v121 (ix2 n j))) q = ix2 n q := fun q => funext fun b => match b with
    | ⟨0, _⟩ => rfl
    | ⟨1, _⟩ => rfl
  rw [Fin.sum_univ_two, h, h, picked_apply A hA, picked_apply A hA]
  rfl

end Cert.ReferenceIdeal.Ref
-- ==== Proof.Final.Value.lean ====
/- The value claim: from tame arguments, both programs end with the model's weights, picked lanes and logits. -/
module

public import proofs.«01_k».proof.Proof.Final.Tame
public import proofs.«01_k».proof.Proof.Arrays.Results
public import proofs.«01_k».proof.Proof.Ref.Route
public import proofs.«01_k».proof.Proof.Gen.ReferenceIdeal.Run

@[expose] public section

noncomputable section

namespace Cert.Proof

open Idealize.ShloMosaic Idealize.ShloMosaic.TcCoe Idealize.SL.Sem
open Idealize.ShloMosaic.StableHlo
open Cert.Math

/-- The model's arguments, read off the reference's arrays. -/
abbrev refArgs (V : Valuation Cert.ReferenceIdeal.τ Cert.ReferenceIdeal.sig (Elt Ideal)) : Args where
  x := V (Proc.devRef .tc Cert.ReferenceIdeal.main_arg0)
  w := V (Proc.devRef .tc Cert.ReferenceIdeal.main_arg1)
  γ := V (Proc.devRef .tc Cert.ReferenceIdeal.main_arg2)
  β := V (Proc.devRef .tc Cert.ReferenceIdeal.main_arg3)
  μ := V (Proc.devRef .tc Cert.ReferenceIdeal.main_arg4)
  v := V (Proc.devRef .tc Cert.ReferenceIdeal.main_arg5)
  pw := V (Proc.devRef .tc Cert.ReferenceIdeal.main_arg6)
  fw := V (Proc.devRef .tc Cert.ReferenceIdeal.main_arg7)
  fb := V (Proc.devRef .tc Cert.ReferenceIdeal.main_arg8)

/-- The three results of the reference, at arguments that are the kernel's. -/
theorem same_weights (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (A : Args) (hA : Tame A)
    (e : Cert.KernelIdeal.Arrays.args m c = A) :
    Cert.ReferenceIdeal.Read.val_main_v122 (F := Ideal) A.x A.w A.γ A.β A.μ A.v A.pw A.fw A.fb
      = Cert.KernelIdeal.Run.W4 m ρ c (Proc.devRef .tc Cert.KernelIdeal.main_v24_0) := by
  subst e
  funext i
  have hi : i = ValueIdx.ix2 (n0 := 64) (n1 := 2) (i 0) (i 1) := funext fun b => match b with
    | ⟨0, _⟩ => rfl
    | ⟨1, _⟩ => rfl
  rw [hi]
  exact (Cert.ReferenceIdeal.Ref.weights_apply _ hA _ _).trans (Cert.KernelIdeal.Arrays.res_weights m ρ c hA _ _).symm

theorem same_indices (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (A : Args) (hA : Tame A)
    (e : Cert.KernelIdeal.Arrays.args m c = A) :
    Cert.ReferenceIdeal.Read.val_main_indices (F := Ideal) A.x A.w A.γ A.β A.μ A.v A.pw A.fw A.fb
      = Cert.KernelIdeal.Run.W4 m ρ c (Proc.devRef .tc Cert.KernelIdeal.main_v24_1) := by
  subst e
  funext i
  have hi : i = ValueIdx.ix2 (n0 := 64) (n1 := 2) (i 0) (i 1) := funext fun b => match b with
    | ⟨0, _⟩ => rfl
    | ⟨1, _⟩ => rfl
  rw [hi]
  exact (Cert.ReferenceIdeal.Ref.indices_apply _ hA _ _).trans (Cert.KernelIdeal.Arrays.res_indices m ρ c _ _).symm

theorem same_logits (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (A : Args) (hA : Tame A)
    (e : Cert.KernelIdeal.Arrays.args m c = A) :
    Cert.ReferenceIdeal.Read.val_main_v104 (F := Ideal) A.x A.w A.γ A.β A.μ A.v A.pw A.fw A.fb
      = Cert.KernelIdeal.Run.W4 m ρ c (Proc.devRef .tc Cert.KernelIdeal.main_v24_2) := by
  subst e
  funext i
  have hi : i = ValueIdx.ix2 (n0 := 64) (n1 := 16) (i 0) (i 1) := funext fun b => match b with
    | ⟨0, _⟩ => rfl
    | ⟨1, _⟩ => rfl
  rw [hi]
  exact (Cert.ReferenceIdeal.Ref.logit_apply _ hA _ _).trans (Cert.KernelIdeal.Arrays.res_logits m ρ c _ _).symm

theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.KernelIdeal.Arrays.args m c = refArgs (launchContents m' c) := by
  unfold Cert.KernelIdeal.Arrays.args refArgs
  rw [← h0, ← h1, ← h2, ← h3, ← h4, ← h5, ← h6, ← h7, ← h8]

/-- The idealized kernel and the idealized reference end with equal results. -/
theorem algebraic : Cert.algebraic_KernelIdeal_ReferenceIdeal_pre_inputs_tame (hKernelIdeal := Cert.KernelIdeal.Gen.facts)
    (hReferenceIdeal := Cert.ReferenceIdeal.Gen.facts) (hPre_inputs_tame := Cert.Pre_inputs_tame.Gen.facts) := by
  intro m ρ m' ρ' hpre hagree
  have hA : ∀ c, Tame (Cert.KernelIdeal.Arrays.args m c) := fun c => Cert.Pre_inputs_tame.Gen.tame _ (hpre c)
  refine ⟨fun c => Cert.KernelIdeal.Run.W4 m ρ c (Proc.devRef .tc Cert.KernelIdeal.main_v24_0),
    fun c => Cert.KernelIdeal.Run.W4 m ρ c (Proc.devRef .tc Cert.KernelIdeal.main_v24_1),
    fun c => Cert.KernelIdeal.Run.W4 m ρ c (Proc.devRef .tc Cert.KernelIdeal.main_v24_2), ?_, ?_⟩
  · exact (θ_run Cert.KernelIdeal.defs _ _).mono (fun _ h c => ⟨(h c).1.1, (h c).1.2.1, (h c).1.2.2, (h c).2⟩)
      (Cert.KernelIdeal.Run.results m ρ)
  · have e : ∀ c : Dev Cert.KernelIdeal.nD, Cert.KernelIdeal.Arrays.args m c = refArgs (launchContents m' c) := fun c => by
      obtain ⟨h0, h1, h2, h3, h4, h5, h6, h7, h8⟩ := hagree c
      exact args_eq m m' c h0 h1 h2 h3 h4 h5 h6 h7 h8
    have tA : ∀ c : Dev Cert.KernelIdeal.nD, Tame (refArgs (launchContents m' c)) := fun c => e c ▸ hA c
    have w : ∀ c : Dev Cert.KernelIdeal.nD, _ := fun c =>
      (Cert.ReferenceIdeal.Read.val_main_v122_eq (F := Ideal) (launchContents m' c)).trans (same_weights m ρ c (refArgs (launchContents m' c)) (tA c) (e c))
    have i : ∀ c : Dev Cert.KernelIdeal.nD, _ := fun c =>
      (Cert.ReferenceIdeal.Read.val_main_indices_eq (F := Ideal) (launchContents m' c)).trans (same_indices m ρ c (refArgs (launchContents m' c)) (tA c) (e c))
    have l : ∀ c : Dev Cert.KernelIdeal.nD, _ := fun c =>
      (Cert.ReferenceIdeal.Read.val_main_v104_eq (F := Ideal) (launchContents m' c)).trans (same_logits m ρ c (refArgs (launchContents m' c)) (tA c) (e c))
    exact (θ_run Cert.ReferenceIdeal.defs _ _).mono (fun _ h c =>
      ⟨(h c).1.trans (w c), (h c).2.1.trans (i c), (h c).2.2.1.trans (l c), (h c).2.2.2⟩) (Cert.ReferenceIdeal.Value.run (F := Ideal) m' ρ')

end Cert.Proof
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Final.Value
public import Idealize.ShloMosaic.Lib.Quiescent

@[expose] public section

noncomputable section

namespace Cert.Proof

open Idealize.ShloMosaic Idealize.ShloMosaic.TcCoe Idealize.SL.Sem

theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The two renamed constants: the reciprocal of the number of pooled positions, and the mask. -/
theorem preserves : Cert.preserves_Kernel_KernelIdeal :=
  ⟨IdealRules.named_const.statement Cert.KernelIdeal.κ "inv_hw" .f32 0x3BA72F05#32 ((1 / 196 : ℝ) : EReal) rfl,
    IdealRules.named_const.statement Cert.KernelIdeal.κ "mask" .f32 0xF149F2CA#32 ⊥ rfl⟩

theorem claim : Cert.Claim :=
  ⟨Cert.Kernel.Gen.facts, Cert.KernelIdeal.Gen.facts, Cert.ReferenceIdeal.Gen.facts, Cert.Pre_inputs_tame.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, preserves, algebraic⟩

end Cert.Proof

end
